-- ==== Defs.lean ====
def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_MixnormBwd (m : (ℓ : Loc Cert.MixnormBwd.nD Cert.MixnormBwd.τ Cert.MixnormBwd.sig) → Buf (Elt Bits) ℓ) : Prop :=
  True

def Pre_MixnormBwdIdeal (m : (ℓ : Loc Cert.MixnormBwdIdeal.nD Cert.MixnormBwdIdeal.τ Cert.MixnormBwdIdeal.sig) → Buf (Elt Ideal) ℓ) : Prop :=
  True

def Pre_MixnormBwdRefIdeal (m : (ℓ : Loc Cert.MixnormBwdRefIdeal.nD Cert.MixnormBwdRefIdeal.τ Cert.MixnormBwdRefIdeal.sig) → Buf (Elt Ideal) ℓ) : Prop :=
  True

def Pre_AttnBwdKv (m : (ℓ : Loc Cert.AttnBwdKv.nD Cert.AttnBwdKv.τ Cert.AttnBwdKv.sig) → Buf (Elt Bits) ℓ) : Prop :=
  True

def Pre_AttnBwdKvIdeal (m : (ℓ : Loc Cert.AttnBwdKvIdeal.nD Cert.AttnBwdKvIdeal.τ Cert.AttnBwdKvIdeal.sig) → Buf (Elt Ideal) ℓ) : Prop :=
  True

def Pre_AttnBwdKvRefIdeal (m : (ℓ : Loc Cert.AttnBwdKvRefIdeal.nD Cert.AttnBwdKvRefIdeal.τ Cert.AttnBwdKvRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MixnormFwd (m : (ℓ : Loc Cert.MixnormFwd.nD Cert.MixnormFwd.τ Cert.MixnormFwd.sig) → Buf (Elt Bits) ℓ) : Prop :=
  True

def Pre_MixnormFwdIdeal (m : (ℓ : Loc Cert.MixnormFwdIdeal.nD Cert.MixnormFwdIdeal.τ Cert.MixnormFwdIdeal.sig) → Buf (Elt Ideal) ℓ) : Prop :=
  True

def Pre_MixnormFwdRefIdeal (m : (ℓ : Loc Cert.MixnormFwdRefIdeal.nD Cert.MixnormFwdRefIdeal.τ Cert.MixnormFwdRefIdeal.sig) → Buf (Elt Ideal) ℓ) : Prop :=
  True

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_MixnormBwd [hMixnormBwd : Cert.MixnormBwd.Facts] : Prop :=
  ∀ (m : (ℓ : Loc Cert.MixnormBwd.nD Cert.MixnormBwd.τ Cert.MixnormBwd.sig) → Buf (Elt Bits) ℓ) (g : Dev Cert.MixnormBwd.nD → PrngReg), Pre_MixnormBwd m →
    θ_run (Cert.MixnormBwd.defs (F := Bits)) (onTc (τ := Cert.MixnormBwd.τ) (Cert.MixnormBwd.main (F := Bits))) ⟨m, fun _ => 0, g⟩ (fun r => (∀ c : Dev Cert.MixnormBwd.nD,
      r.2.mem ((c.tc : Thread Cert.MixnormBwd.nD Cert.MixnormBwd.τ).loc Cert.MixnormBwd.main_arg0) = m ((c.tc : Thread Cert.MixnormBwd.nD Cert.MixnormBwd.τ).loc Cert.MixnormBwd.main_arg0)
      ∧ r.2.mem ((c.tc : Thread Cert.MixnormBwd.nD Cert.MixnormBwd.τ).loc Cert.MixnormBwd.main_arg1) = m ((c.tc : Thread Cert.MixnormBwd.nD Cert.MixnormBwd.τ).loc Cert.MixnormBwd.main_arg1)
      ∧ r.2.mem ((c.tc : Thread Cert.MixnormBwd.nD Cert.MixnormBwd.τ).loc Cert.MixnormBwd.main_arg2) = m ((c.tc : Thread Cert.MixnormBwd.nD Cert.MixnormBwd.τ).loc Cert.MixnormBwd.main_arg2)
      ∧ r.2.mem ((c.tc : Thread Cert.MixnormBwd.nD Cert.MixnormBwd.τ).loc Cert.MixnormBwd.main_arg3) = m ((c.tc : Thread Cert.MixnormBwd.nD Cert.MixnormBwd.τ).loc Cert.MixnormBwd.main_arg3)
      ∧ r.2.mem ((c.tc : Thread Cert.MixnormBwd.nD Cert.MixnormBwd.τ).loc Cert.MixnormBwd.main_arg4) = m ((c.tc : Thread Cert.MixnormBwd.nD Cert.MixnormBwd.τ).loc Cert.MixnormBwd.main_arg4))
      ∧ r.2.sem = fun _ => 0)

def quiescent_MixnormBwdIdeal [hMixnormBwdIdeal : Cert.MixnormBwdIdeal.Facts] : Prop :=
  ∀ (m : (ℓ : Loc Cert.MixnormBwdIdeal.nD Cert.MixnormBwdIdeal.τ Cert.MixnormBwdIdeal.sig) → Buf (Elt Ideal) ℓ) (g : Dev Cert.MixnormBwdIdeal.nD → PrngReg), Pre_MixnormBwdIdeal m →
    θ_run (Cert.MixnormBwdIdeal.defs (F := Ideal)) (onTc (τ := Cert.MixnormBwdIdeal.τ) (Cert.MixnormBwdIdeal.main (F := Ideal))) ⟨m, fun _ => 0, g⟩ (fun r => (∀ c : Dev Cert.MixnormBwdIdeal.nD,
      r.2.mem ((c.tc : Thread Cert.MixnormBwdIdeal.nD Cert.MixnormBwdIdeal.τ).loc Cert.MixnormBwdIdeal.main_arg0) = m ((c.tc : Thread Cert.MixnormBwdIdeal.nD Cert.MixnormBwdIdeal.τ).loc Cert.MixnormBwdIdeal.main_arg0)
      ∧ r.2.mem ((c.tc : Thread Cert.MixnormBwdIdeal.nD Cert.MixnormBwdIdeal.τ).loc Cert.MixnormBwdIdeal.main_arg1) = m ((c.tc : Thread Cert.MixnormBwdIdeal.nD Cert.MixnormBwdIdeal.τ).loc Cert.MixnormBwdIdeal.main_arg1)
      ∧ r.2.mem ((c.tc : Thread Cert.MixnormBwdIdeal.nD Cert.MixnormBwdIdeal.τ).loc Cert.MixnormBwdIdeal.main_arg2) = m ((c.tc : Thread Cert.MixnormBwdIdeal.nD Cert.MixnormBwdIdeal.τ).loc Cert.MixnormBwdIdeal.main_arg2)
      ∧ r.2.mem ((c.tc : Thread Cert.MixnormBwdIdeal.nD Cert.MixnormBwdIdeal.τ).loc Cert.MixnormBwdIdeal.main_arg3) = m ((c.tc : Thread Cert.MixnormBwdIdeal.nD Cert.MixnormBwdIdeal.τ).loc Cert.MixnormBwdIdeal.main_arg3)
      ∧ r.2.mem ((c.tc : Thread Cert.MixnormBwdIdeal.nD Cert.MixnormBwdIdeal.τ).loc Cert.MixnormBwdIdeal.main_arg4) = m ((c.tc : Thread Cert.MixnormBwdIdeal.nD Cert.MixnormBwdIdeal.τ).loc Cert.MixnormBwdIdeal.main_arg4))
      ∧ r.2.sem = fun _ => 0)

def quiescent_MixnormBwdRefIdeal [hMixnormBwdRefIdeal : Cert.MixnormBwdRefIdeal.Facts] : Prop :=
  ∀ (m : (ℓ : Loc Cert.MixnormBwdRefIdeal.nD Cert.MixnormBwdRefIdeal.τ Cert.MixnormBwdRefIdeal.sig) → Buf (Elt Ideal) ℓ) (g : Dev Cert.MixnormBwdRefIdeal.nD → PrngReg), Pre_MixnormBwdRefIdeal m →
    θ_run (Cert.MixnormBwdRefIdeal.defs (F := Ideal)) (onTc (τ := Cert.MixnormBwdRefIdeal.τ) (Cert.MixnormBwdRefIdeal.main (F := Ideal))) ⟨m, fun _ => 0, g⟩ (fun r => (∀ c : Dev Cert.MixnormBwdRefIdeal.nD,
      r.2.mem ((c.tc : Thread Cert.MixnormBwdRefIdeal.nD Cert.MixnormBwdRefIdeal.τ).loc Cert.MixnormBwdRefIdeal.main_arg0) = m ((c.tc : Thread Cert.MixnormBwdRefIdeal.nD Cert.MixnormBwdRefIdeal.τ).loc Cert.MixnormBwdRefIdeal.main_arg0)
      ∧ r.2.mem ((c.tc : Thread Cert.MixnormBwdRefIdeal.nD Cert.MixnormBwdRefIdeal.τ).loc Cert.MixnormBwdRefIdeal.main_arg1) = m ((c.tc : Thread Cert.MixnormBwdRefIdeal.nD Cert.MixnormBwdRefIdeal.τ).loc Cert.MixnormBwdRefIdeal.main_arg1)
      ∧ r.2.mem ((c.tc : Thread Cert.MixnormBwdRefIdeal.nD Cert.MixnormBwdRefIdeal.τ).loc Cert.MixnormBwdRefIdeal.main_arg2) = m ((c.tc : Thread Cert.MixnormBwdRefIdeal.nD Cert.MixnormBwdRefIdeal.τ).loc Cert.MixnormBwdRefIdeal.main_arg2)
      ∧ r.2.mem ((c.tc : Thread Cert.MixnormBwdRefIdeal.nD Cert.MixnormBwdRefIdeal.τ).loc Cert.MixnormBwdRefIdeal.main_arg3) = m ((c.tc : Thread Cert.MixnormBwdRefIdeal.nD Cert.MixnormBwdRefIdeal.τ).loc Cert.MixnormBwdRefIdeal.main_arg3)
      ∧ r.2.mem ((c.tc : Thread Cert.MixnormBwdRefIdeal.nD Cert.MixnormBwdRefIdeal.τ).loc Cert.MixnormBwdRefIdeal.main_arg4) = m ((c.tc : Thread Cert.MixnormBwdRefIdeal.nD Cert.MixnormBwdRefIdeal.τ).loc Cert.MixnormBwdRefIdeal.main_arg4))
      ∧ r.2.sem = fun _ => 0)

def quiescent_AttnBwdKv [hAttnBwdKv : Cert.AttnBwdKv.Facts] : Prop :=
  ∀ (m : (ℓ : Loc Cert.AttnBwdKv.nD Cert.AttnBwdKv.τ Cert.AttnBwdKv.sig) → Buf (Elt Bits) ℓ) (g : Dev Cert.AttnBwdKv.nD → PrngReg), Pre_AttnBwdKv m →
    θ_run (Cert.AttnBwdKv.defs (F := Bits)) (onTc (τ := Cert.AttnBwdKv.τ) (Cert.AttnBwdKv.main (F := Bits))) ⟨m, fun _ => 0, g⟩ (fun r => (∀ c : Dev Cert.AttnBwdKv.nD,
      r.2.mem ((c.tc : Thread Cert.AttnBwdKv.nD Cert.AttnBwdKv.τ).loc Cert.AttnBwdKv.main_arg0) = m ((c.tc : Thread Cert.AttnBwdKv.nD Cert.AttnBwdKv.τ).loc Cert.AttnBwdKv.main_arg0)
      ∧ r.2.mem ((c.tc : Thread Cert.AttnBwdKv.nD Cert.AttnBwdKv.τ).loc Cert.AttnBwdKv.main_arg1) = m ((c.tc : Thread Cert.AttnBwdKv.nD Cert.AttnBwdKv.τ).loc Cert.AttnBwdKv.main_arg1)
      ∧ r.2.mem ((c.tc : Thread Cert.AttnBwdKv.nD Cert.AttnBwdKv.τ).loc Cert.AttnBwdKv.main_arg2) = m ((c.tc : Thread Cert.AttnBwdKv.nD Cert.AttnBwdKv.τ).loc Cert.AttnBwdKv.main_arg2)
      ∧ r.2.mem ((c.tc : Thread Cert.AttnBwdKv.nD Cert.AttnBwdKv.τ).loc Cert.AttnBwdKv.main_arg3) = m ((c.tc : Thread Cert.AttnBwdKv.nD Cert.AttnBwdKv.τ).loc Cert.AttnBwdKv.main_arg3)
      ∧ r.2.mem ((c.tc : Thread Cert.AttnBwdKv.nD Cert.AttnBwdKv.τ).loc Cert.AttnBwdKv.main_arg4) = m ((c.tc : Thread Cert.AttnBwdKv.nD Cert.AttnBwdKv.τ).loc Cert.AttnBwdKv.main_arg4)
      ∧ r.2.mem ((c.tc : Thread Cert.AttnBwdKv.nD Cert.AttnBwdKv.τ).loc Cert.AttnBwdKv.main_arg5) = m ((c.tc : Thread Cert.AttnBwdKv.nD Cert.AttnBwdKv.τ).loc Cert.AttnBwdKv.main_arg5))
      ∧ r.2.sem = fun _ => 0)

def quiescent_AttnBwdKvIdeal [hAttnBwdKvIdeal : Cert.AttnBwdKvIdeal.Facts] : Prop :=
  ∀ (m : (ℓ : Loc Cert.AttnBwdKvIdeal.nD Cert.AttnBwdKvIdeal.τ Cert.AttnBwdKvIdeal.sig) → Buf (Elt Ideal) ℓ) (g : Dev Cert.AttnBwdKvIdeal.nD → PrngReg), Pre_AttnBwdKvIdeal m →
    θ_run (Cert.AttnBwdKvIdeal.defs (F := Ideal)) (onTc (τ := Cert.AttnBwdKvIdeal.τ) (Cert.AttnBwdKvIdeal.main (F := Ideal))) ⟨m, fun _ => 0, g⟩ (fun r => (∀ c : Dev Cert.AttnBwdKvIdeal.nD,
      r.2.mem ((c.tc : Thread Cert.AttnBwdKvIdeal.nD Cert.AttnBwdKvIdeal.τ).loc Cert.AttnBwdKvIdeal.main_arg0) = m ((c.tc : Thread Cert.AttnBwdKvIdeal.nD Cert.AttnBwdKvIdeal.τ).loc Cert.AttnBwdKvIdeal.main_arg0)
      ∧ r.2.mem ((c.tc : Thread Cert.AttnBwdKvIdeal.nD Cert.AttnBwdKvIdeal.τ).loc Cert.AttnBwdKvIdeal.main_arg1) = m ((c.tc : Thread Cert.AttnBwdKvIdeal.nD Cert.AttnBwdKvIdeal.τ).loc Cert.AttnBwdKvIdeal.main_arg1)
      ∧ r.2.mem ((c.tc : Thread Cert.AttnBwdKvIdeal.nD Cert.AttnBwdKvIdeal.τ).loc Cert.AttnBwdKvIdeal.main_arg2) = m ((c.tc : Thread Cert.AttnBwdKvIdeal.nD Cert.AttnBwdKvIdeal.τ).loc Cert.AttnBwdKvIdeal.main_arg2)
      ∧ r.2.mem ((c.tc : Thread Cert.AttnBwdKvIdeal.nD Cert.AttnBwdKvIdeal.τ).loc Cert.AttnBwdKvIdeal.main_arg3) = m ((c.tc : Thread Cert.AttnBwdKvIdeal.nD Cert.AttnBwdKvIdeal.τ).loc Cert.AttnBwdKvIdeal.main_arg3)
      ∧ r.2.mem ((c.tc : Thread Cert.AttnBwdKvIdeal.nD Cert.AttnBwdKvIdeal.τ).loc Cert.AttnBwdKvIdeal.main_arg4) = m ((c.tc : Thread Cert.AttnBwdKvIdeal.nD Cert.AttnBwdKvIdeal.τ).loc Cert.AttnBwdKvIdeal.main_arg4)
      ∧ r.2.mem ((c.tc : Thread Cert.AttnBwdKvIdeal.nD Cert.AttnBwdKvIdeal.τ).loc Cert.AttnBwdKvIdeal.main_arg5) = m ((c.tc : Thread Cert.AttnBwdKvIdeal.nD Cert.AttnBwdKvIdeal.τ).loc Cert.AttnBwdKvIdeal.main_arg5))
      ∧ r.2.sem = fun _ => 0)

def quiescent_AttnBwdKvRefIdeal [hAttnBwdKvRefIdeal : Cert.AttnBwdKvRefIdeal.Facts] : Prop :=
  ∀ (m : (ℓ : Loc Cert.AttnBwdKvRefIdeal.nD Cert.AttnBwdKvRefIdeal.τ Cert.AttnBwdKvRefIdeal.sig) → Buf (Elt Ideal) ℓ) (g : Dev Cert.AttnBwdKvRefIdeal.nD → PrngReg), Pre_AttnBwdKvRefIdeal m →
    θ_run (Cert.AttnBwdKvRefIdeal.defs (F := Ideal)) (onTc (τ := Cert.AttnBwdKvRefIdeal.τ) (Cert.AttnBwdKvRefIdeal.main (F := Ideal))) ⟨m, fun _ => 0, g⟩ (fun r => (∀ c : Dev Cert.AttnBwdKvRefIdeal.nD,
      r.2.mem ((c.tc : Thread Cert.AttnBwdKvRefIdeal.nD Cert.AttnBwdKvRefIdeal.τ).loc Cert.AttnBwdKvRefIdeal.main_arg0) = m ((c.tc : Thread Cert.AttnBwdKvRefIdeal.nD Cert.AttnBwdKvRefIdeal.τ).loc Cert.AttnBwdKvRefIdeal.main_arg0)
      ∧ r.2.mem ((c.tc : Thread Cert.AttnBwdKvRefIdeal.nD Cert.AttnBwdKvRefIdeal.τ).loc Cert.AttnBwdKvRefIdeal.main_arg1) = m ((c.tc : Thread Cert.AttnBwdKvRefIdeal.nD Cert.AttnBwdKvRefIdeal.τ).loc Cert.AttnBwdKvRefIdeal.main_arg1)
      ∧ r.2.mem ((c.tc : Thread Cert.AttnBwdKvRefIdeal.nD Cert.AttnBwdKvRefIdeal.τ).loc Cert.AttnBwdKvRefIdeal.main_arg2) = m ((c.tc : Thread Cert.AttnBwdKvRefIdeal.nD Cert.AttnBwdKvRefIdeal.τ).loc Cert.AttnBwdKvRefIdeal.main_arg2)
      ∧ r.2.mem ((c.tc : Thread Cert.AttnBwdKvRefIdeal.nD Cert.AttnBwdKvRefIdeal.τ).loc Cert.AttnBwdKvRefIdeal.main_arg3) = m ((c.tc : Thread Cert.AttnBwdKvRefIdeal.nD Cert.AttnBwdKvRefIdeal.τ).loc Cert.AttnBwdKvRefIdeal.main_arg3)
      ∧ r.2.mem ((c.tc : Thread Cert.AttnBwdKvRefIdeal.nD Cert.AttnBwdKvRefIdeal.τ).loc Cert.AttnBwdKvRefIdeal.main_arg4) = m ((c.tc : Thread Cert.AttnBwdKvRefIdeal.nD Cert.AttnBwdKvRefIdeal.τ).loc Cert.AttnBwdKvRefIdeal.main_arg4)
      ∧ r.2.mem ((c.tc : Thread Cert.AttnBwdKvRefIdeal.nD Cert.AttnBwdKvRefIdeal.τ).loc Cert.AttnBwdKvRefIdeal.main_arg5) = m ((c.tc : Thread Cert.AttnBwdKvRefIdeal.nD Cert.AttnBwdKvRefIdeal.τ).loc Cert.AttnBwdKvRefIdeal.main_arg5))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MixnormFwd [hMixnormFwd : Cert.MixnormFwd.Facts] : Prop :=
  ∀ (m : (ℓ : Loc Cert.MixnormFwd.nD Cert.MixnormFwd.τ Cert.MixnormFwd.sig) → Buf (Elt Bits) ℓ) (g : Dev Cert.MixnormFwd.nD → PrngReg), Pre_MixnormFwd m →
    θ_run (Cert.MixnormFwd.defs (F := Bits)) (onTc (τ := Cert.MixnormFwd.τ) (Cert.MixnormFwd.main (F := Bits))) ⟨m, fun _ => 0, g⟩ (fun r => (∀ c : Dev Cert.MixnormFwd.nD,
      r.2.mem ((c.tc : Thread Cert.MixnormFwd.nD Cert.MixnormFwd.τ).loc Cert.MixnormFwd.main_arg0) = m ((c.tc : Thread Cert.MixnormFwd.nD Cert.MixnormFwd.τ).loc Cert.MixnormFwd.main_arg0)
      ∧ r.2.mem ((c.tc : Thread Cert.MixnormFwd.nD Cert.MixnormFwd.τ).loc Cert.MixnormFwd.main_arg1) = m ((c.tc : Thread Cert.MixnormFwd.nD Cert.MixnormFwd.τ).loc Cert.MixnormFwd.main_arg1)
      ∧ r.2.mem ((c.tc : Thread Cert.MixnormFwd.nD Cert.MixnormFwd.τ).loc Cert.MixnormFwd.main_arg2) = m ((c.tc : Thread Cert.MixnormFwd.nD Cert.MixnormFwd.τ).loc Cert.MixnormFwd.main_arg2)
      ∧ r.2.mem ((c.tc : Thread Cert.MixnormFwd.nD Cert.MixnormFwd.τ).loc Cert.MixnormFwd.main_arg3) = m ((c.tc : Thread Cert.MixnormFwd.nD Cert.MixnormFwd.τ).loc Cert.MixnormFwd.main_arg3))
      ∧ r.2.sem = fun _ => 0)

def quiescent_MixnormFwdIdeal [hMixnormFwdIdeal : Cert.MixnormFwdIdeal.Facts] : Prop :=
  ∀ (m : (ℓ : Loc Cert.MixnormFwdIdeal.nD Cert.MixnormFwdIdeal.τ Cert.MixnormFwdIdeal.sig) → Buf (Elt Ideal) ℓ) (g : Dev Cert.MixnormFwdIdeal.nD → PrngReg), Pre_MixnormFwdIdeal m →
    θ_run (Cert.MixnormFwdIdeal.defs (F := Ideal)) (onTc (τ := Cert.MixnormFwdIdeal.τ) (Cert.MixnormFwdIdeal.main (F := Ideal))) ⟨m, fun _ => 0, g⟩ (fun r => (∀ c : Dev Cert.MixnormFwdIdeal.nD,
      r.2.mem ((c.tc : Thread Cert.MixnormFwdIdeal.nD Cert.MixnormFwdIdeal.τ).loc Cert.MixnormFwdIdeal.main_arg0) = m ((c.tc : Thread Cert.MixnormFwdIdeal.nD Cert.MixnormFwdIdeal.τ).loc Cert.MixnormFwdIdeal.main_arg0)
      ∧ r.2.mem ((c.tc : Thread Cert.MixnormFwdIdeal.nD Cert.MixnormFwdIdeal.τ).loc Cert.MixnormFwdIdeal.main_arg1) = m ((c.tc : Thread Cert.MixnormFwdIdeal.nD Cert.MixnormFwdIdeal.τ).loc Cert.MixnormFwdIdeal.main_arg1)
      ∧ r.2.mem ((c.tc : Thread Cert.MixnormFwdIdeal.nD Cert.MixnormFwdIdeal.τ).loc Cert.MixnormFwdIdeal.main_arg2) = m ((c.tc : Thread Cert.MixnormFwdIdeal.nD Cert.MixnormFwdIdeal.τ).loc Cert.MixnormFwdIdeal.main_arg2)
      ∧ r.2.mem ((c.tc : Thread Cert.MixnormFwdIdeal.nD Cert.MixnormFwdIdeal.τ).loc Cert.MixnormFwdIdeal.main_arg3) = m ((c.tc : Thread Cert.MixnormFwdIdeal.nD Cert.MixnormFwdIdeal.τ).loc Cert.MixnormFwdIdeal.main_arg3))
      ∧ r.2.sem = fun _ => 0)

def quiescent_MixnormFwdRefIdeal [hMixnormFwdRefIdeal : Cert.MixnormFwdRefIdeal.Facts] : Prop :=
  ∀ (m : (ℓ : Loc Cert.MixnormFwdRefIdeal.nD Cert.MixnormFwdRefIdeal.τ Cert.MixnormFwdRefIdeal.sig) → Buf (Elt Ideal) ℓ) (g : Dev Cert.MixnormFwdRefIdeal.nD → PrngReg), Pre_MixnormFwdRefIdeal m →
    θ_run (Cert.MixnormFwdRefIdeal.defs (F := Ideal)) (onTc (τ := Cert.MixnormFwdRefIdeal.τ) (Cert.MixnormFwdRefIdeal.main (F := Ideal))) ⟨m, fun _ => 0, g⟩ (fun r => (∀ c : Dev Cert.MixnormFwdRefIdeal.nD,
      r.2.mem ((c.tc : Thread Cert.MixnormFwdRefIdeal.nD Cert.MixnormFwdRefIdeal.τ).loc Cert.MixnormFwdRefIdeal.main_arg0) = m ((c.tc : Thread Cert.MixnormFwdRefIdeal.nD Cert.MixnormFwdRefIdeal.τ).loc Cert.MixnormFwdRefIdeal.main_arg0)
      ∧ r.2.mem ((c.tc : Thread Cert.MixnormFwdRefIdeal.nD Cert.MixnormFwdRefIdeal.τ).loc Cert.MixnormFwdRefIdeal.main_arg1) = m ((c.tc : Thread Cert.MixnormFwdRefIdeal.nD Cert.MixnormFwdRefIdeal.τ).loc Cert.MixnormFwdRefIdeal.main_arg1)
      ∧ r.2.mem ((c.tc : Thread Cert.MixnormFwdRefIdeal.nD Cert.MixnormFwdRefIdeal.τ).loc Cert.MixnormFwdRefIdeal.main_arg2) = m ((c.tc : Thread Cert.MixnormFwdRefIdeal.nD Cert.MixnormFwdRefIdeal.τ).loc Cert.MixnormFwdRefIdeal.main_arg2)
      ∧ r.2.mem ((c.tc : Thread Cert.MixnormFwdRefIdeal.nD Cert.MixnormFwdRefIdeal.τ).loc Cert.MixnormFwdRefIdeal.main_arg3) = m ((c.tc : Thread Cert.MixnormFwdRefIdeal.nD Cert.MixnormFwdRefIdeal.τ).loc Cert.MixnormFwdRefIdeal.main_arg3))
      ∧ r.2.sem = fun _ => 0)

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v7_0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v7_0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)) →
    ∃ (v0 : (c : Dev Cert.DupIdeal.nD) → Buf (Elt Ideal) ((c.tc : Thread Cert.DupIdeal.nD Cert.DupIdeal.τ).loc Cert.DupIdeal.main_v4_0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v4_0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v12) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2_0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2_0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v6) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v4_0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v4_0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v2) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2_0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2_0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v3_0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v3_0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v2) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2_0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2_0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v4_0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v4_0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v2) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v15) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v8_0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8_0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_MixnormBwd_MixnormBwdIdeal : Prop :=
  True

def algebraic_MixnormBwdIdeal_MixnormBwdRefIdeal [hMixnormBwdIdeal : Cert.MixnormBwdIdeal.Facts] [hMixnormBwdRefIdeal : Cert.MixnormBwdRefIdeal.Facts] : Prop :=
  ∀ (m : (ℓ : Loc Cert.MixnormBwdIdeal.nD Cert.MixnormBwdIdeal.τ Cert.MixnormBwdIdeal.sig) → Buf (Elt Ideal) ℓ) (g : Dev Cert.MixnormBwdIdeal.nD → PrngReg)
    (m' : (ℓ : Loc Cert.MixnormBwdRefIdeal.nD Cert.MixnormBwdRefIdeal.τ Cert.MixnormBwdRefIdeal.sig) → Buf (Elt Ideal) ℓ) (g' : Dev Cert.MixnormBwdRefIdeal.nD → PrngReg), Pre_MixnormBwdIdeal m →
    (∀ c : Dev Cert.MixnormBwdIdeal.nD,
      m' ((c.tc : Thread Cert.MixnormBwdRefIdeal.nD Cert.MixnormBwdRefIdeal.τ).loc Cert.MixnormBwdRefIdeal.main_arg0) = m ((c.tc : Thread Cert.MixnormBwdIdeal.nD Cert.MixnormBwdIdeal.τ).loc Cert.MixnormBwdIdeal.main_arg0)
      ∧ m' ((c.tc : Thread Cert.MixnormBwdRefIdeal.nD Cert.MixnormBwdRefIdeal.τ).loc Cert.MixnormBwdRefIdeal.main_arg1) = m ((c.tc : Thread Cert.MixnormBwdIdeal.nD Cert.MixnormBwdIdeal.τ).loc Cert.MixnormBwdIdeal.main_arg1)
      ∧ m' ((c.tc : Thread Cert.MixnormBwdRefIdeal.nD Cert.MixnormBwdRefIdeal.τ).loc Cert.MixnormBwdRefIdeal.main_arg2) = m ((c.tc : Thread Cert.MixnormBwdIdeal.nD Cert.MixnormBwdIdeal.τ).loc Cert.MixnormBwdIdeal.main_arg2)
      ∧ m' ((c.tc : Thread Cert.MixnormBwdRefIdeal.nD Cert.MixnormBwdRefIdeal.τ).loc Cert.MixnormBwdRefIdeal.main_arg3) = m ((c.tc : Thread Cert.MixnormBwdIdeal.nD Cert.MixnormBwdIdeal.τ).loc Cert.MixnormBwdIdeal.main_arg3)
      ∧ m' ((c.tc : Thread Cert.MixnormBwdRefIdeal.nD Cert.MixnormBwdRefIdeal.τ).loc Cert.MixnormBwdRefIdeal.main_arg4) = m ((c.tc : Thread Cert.MixnormBwdIdeal.nD Cert.MixnormBwdIdeal.τ).loc Cert.MixnormBwdIdeal.main_arg4)) →
    ∃ (v0 : (c : Dev Cert.MixnormBwdIdeal.nD) → Buf (Elt Ideal) ((c.tc : Thread Cert.MixnormBwdIdeal.nD Cert.MixnormBwdIdeal.τ).loc Cert.MixnormBwdIdeal.main_v1_0)) (v1 : (c : Dev Cert.MixnormBwdIdeal.nD) → Buf (Elt Ideal) ((c.tc : Thread Cert.MixnormBwdIdeal.nD Cert.MixnormBwdIdeal.τ).loc Cert.MixnormBwdIdeal.main_v1_1)) (v2 : (c : Dev Cert.MixnormBwdIdeal.nD) → Buf (Elt Ideal) ((c.tc : Thread Cert.MixnormBwdIdeal.nD Cert.MixnormBwdIdeal.τ).loc Cert.MixnormBwdIdeal.main_v1_2)) (v3 : (c : Dev Cert.MixnormBwdIdeal.nD) → Buf (Elt Ideal) ((c.tc : Thread Cert.MixnormBwdIdeal.nD Cert.MixnormBwdIdeal.τ).loc Cert.MixnormBwdIdeal.main_v1_3)),
      θ_run (Cert.MixnormBwdIdeal.defs (F := Ideal)) (onTc (τ := Cert.MixnormBwdIdeal.τ) (Cert.MixnormBwdIdeal.main (F := Ideal))) ⟨m, fun _ => 0, g⟩ (fun r => ∀ c : Dev Cert.MixnormBwdIdeal.nD,
          r.2.mem ((c.tc : Thread Cert.MixnormBwdIdeal.nD Cert.MixnormBwdIdeal.τ).loc Cert.MixnormBwdIdeal.main_v1_0) = v0 c
          ∧ r.2.mem ((c.tc : Thread Cert.MixnormBwdIdeal.nD Cert.MixnormBwdIdeal.τ).loc Cert.MixnormBwdIdeal.main_v1_1) = v1 c
          ∧ r.2.mem ((c.tc : Thread Cert.MixnormBwdIdeal.nD Cert.MixnormBwdIdeal.τ).loc Cert.MixnormBwdIdeal.main_v1_2) = v2 c
          ∧ r.2.mem ((c.tc : Thread Cert.MixnormBwdIdeal.nD Cert.MixnormBwdIdeal.τ).loc Cert.MixnormBwdIdeal.main_v1_3) = v3 c
          ∧ r.2.mem ((c.tc : Thread Cert.MixnormBwdIdeal.nD Cert.MixnormBwdIdeal.τ).loc Cert.MixnormBwdIdeal.main_arg0) = m ((c.tc : Thread Cert.MixnormBwdIdeal.nD Cert.MixnormBwdIdeal.τ).loc Cert.MixnormBwdIdeal.main_arg0)
          ∧ r.2.mem ((c.tc : Thread Cert.MixnormBwdIdeal.nD Cert.MixnormBwdIdeal.τ).loc Cert.MixnormBwdIdeal.main_arg1) = m ((c.tc : Thread Cert.MixnormBwdIdeal.nD Cert.MixnormBwdIdeal.τ).loc Cert.MixnormBwdIdeal.main_arg1)
          ∧ r.2.mem ((c.tc : Thread Cert.MixnormBwdIdeal.nD Cert.MixnormBwdIdeal.τ).loc Cert.MixnormBwdIdeal.main_arg2) = m ((c.tc : Thread Cert.MixnormBwdIdeal.nD Cert.MixnormBwdIdeal.τ).loc Cert.MixnormBwdIdeal.main_arg2)
          ∧ r.2.mem ((c.tc : Thread Cert.MixnormBwdIdeal.nD Cert.MixnormBwdIdeal.τ).loc Cert.MixnormBwdIdeal.main_arg3) = m ((c.tc : Thread Cert.MixnormBwdIdeal.nD Cert.MixnormBwdIdeal.τ).loc Cert.MixnormBwdIdeal.main_arg3)
          ∧ r.2.mem ((c.tc : Thread Cert.MixnormBwdIdeal.nD Cert.MixnormBwdIdeal.τ).loc Cert.MixnormBwdIdeal.main_arg4) = m ((c.tc : Thread Cert.MixnormBwdIdeal.nD Cert.MixnormBwdIdeal.τ).loc Cert.MixnormBwdIdeal.main_arg4))
      ∧ θ_run (Cert.MixnormBwdRefIdeal.defs (F := Ideal)) (onTc (τ := Cert.MixnormBwdRefIdeal.τ) (Cert.MixnormBwdRefIdeal.main (F := Ideal))) ⟨m', fun _ => 0, g'⟩ (fun r => ∀ c : Dev Cert.MixnormBwdRefIdeal.nD,
          r.2.mem ((c.tc : Thread Cert.MixnormBwdRefIdeal.nD Cert.MixnormBwdRefIdeal.τ).loc Cert.MixnormBwdRefIdeal.main_v117) = v0 c
          ∧ r.2.mem ((c.tc : Thread Cert.MixnormBwdRefIdeal.nD Cert.MixnormBwdRefIdeal.τ).loc Cert.MixnormBwdRefIdeal.main_v95) = v1 c
          ∧ r.2.mem ((c.tc : Thread Cert.MixnormBwdRefIdeal.nD Cert.MixnormBwdRefIdeal.τ).loc Cert.MixnormBwdRefIdeal.main_v74) = v2 c
          ∧ r.2.mem ((c.tc : Thread Cert.MixnormBwdRefIdeal.nD Cert.MixnormBwdRefIdeal.τ).loc Cert.MixnormBwdRefIdeal.main_v120) = v3 c
          ∧ r.2.mem ((c.tc : Thread Cert.MixnormBwdRefIdeal.nD Cert.MixnormBwdRefIdeal.τ).loc Cert.MixnormBwdRefIdeal.main_arg0) = m' ((c.tc : Thread Cert.MixnormBwdRefIdeal.nD Cert.MixnormBwdRefIdeal.τ).loc Cert.MixnormBwdRefIdeal.main_arg0)
          ∧ r.2.mem ((c.tc : Thread Cert.MixnormBwdRefIdeal.nD Cert.MixnormBwdRefIdeal.τ).loc Cert.MixnormBwdRefIdeal.main_arg1) = m' ((c.tc : Thread Cert.MixnormBwdRefIdeal.nD Cert.MixnormBwdRefIdeal.τ).loc Cert.MixnormBwdRefIdeal.main_arg1)
          ∧ r.2.mem ((c.tc : Thread Cert.MixnormBwdRefIdeal.nD Cert.MixnormBwdRefIdeal.τ).loc Cert.MixnormBwdRefIdeal.main_arg2) = m' ((c.tc : Thread Cert.MixnormBwdRefIdeal.nD Cert.MixnormBwdRefIdeal.τ).loc Cert.MixnormBwdRefIdeal.main_arg2)
          ∧ r.2.mem ((c.tc : Thread Cert.MixnormBwdRefIdeal.nD Cert.MixnormBwdRefIdeal.τ).loc Cert.MixnormBwdRefIdeal.main_arg3) = m' ((c.tc : Thread Cert.MixnormBwdRefIdeal.nD Cert.MixnormBwdRefIdeal.τ).loc Cert.MixnormBwdRefIdeal.main_arg3)
          ∧ r.2.mem ((c.tc : Thread Cert.MixnormBwdRefIdeal.nD Cert.MixnormBwdRefIdeal.τ).loc Cert.MixnormBwdRefIdeal.main_arg4) = m' ((c.tc : Thread Cert.MixnormBwdRefIdeal.nD Cert.MixnormBwdRefIdeal.τ).loc Cert.MixnormBwdRefIdeal.main_arg4))

def preserves_AttnBwdKv_AttnBwdKvIdeal : Prop :=
  True

def algebraic_AttnBwdKvIdeal_AttnBwdKvRefIdeal [hAttnBwdKvIdeal : Cert.AttnBwdKvIdeal.Facts] [hAttnBwdKvRefIdeal : Cert.AttnBwdKvRefIdeal.Facts] : Prop :=
  ∀ (m : (ℓ : Loc Cert.AttnBwdKvIdeal.nD Cert.AttnBwdKvIdeal.τ Cert.AttnBwdKvIdeal.sig) → Buf (Elt Ideal) ℓ) (g : Dev Cert.AttnBwdKvIdeal.nD → PrngReg)
    (m' : (ℓ : Loc Cert.AttnBwdKvRefIdeal.nD Cert.AttnBwdKvRefIdeal.τ Cert.AttnBwdKvRefIdeal.sig) → Buf (Elt Ideal) ℓ) (g' : Dev Cert.AttnBwdKvRefIdeal.nD → PrngReg), Pre_AttnBwdKvIdeal m →
    (∀ c : Dev Cert.AttnBwdKvIdeal.nD,
      m' ((c.tc : Thread Cert.AttnBwdKvRefIdeal.nD Cert.AttnBwdKvRefIdeal.τ).loc Cert.AttnBwdKvRefIdeal.main_arg0) = m ((c.tc : Thread Cert.AttnBwdKvIdeal.nD Cert.AttnBwdKvIdeal.τ).loc Cert.AttnBwdKvIdeal.main_arg0)
      ∧ m' ((c.tc : Thread Cert.AttnBwdKvRefIdeal.nD Cert.AttnBwdKvRefIdeal.τ).loc Cert.AttnBwdKvRefIdeal.main_arg1) = m ((c.tc : Thread Cert.AttnBwdKvIdeal.nD Cert.AttnBwdKvIdeal.τ).loc Cert.AttnBwdKvIdeal.main_arg1)
      ∧ m' ((c.tc : Thread Cert.AttnBwdKvRefIdeal.nD Cert.AttnBwdKvRefIdeal.τ).loc Cert.AttnBwdKvRefIdeal.main_arg2) = m ((c.tc : Thread Cert.AttnBwdKvIdeal.nD Cert.AttnBwdKvIdeal.τ).loc Cert.AttnBwdKvIdeal.main_arg2)
      ∧ m' ((c.tc : Thread Cert.AttnBwdKvRefIdeal.nD Cert.AttnBwdKvRefIdeal.τ).loc Cert.AttnBwdKvRefIdeal.main_arg3) = m ((c.tc : Thread Cert.AttnBwdKvIdeal.nD Cert.AttnBwdKvIdeal.τ).loc Cert.AttnBwdKvIdeal.main_arg3)
      ∧ m' ((c.tc : Thread Cert.AttnBwdKvRefIdeal.nD Cert.AttnBwdKvRefIdeal.τ).loc Cert.AttnBwdKvRefIdeal.main_arg4) = m ((c.tc : Thread Cert.AttnBwdKvIdeal.nD Cert.AttnBwdKvIdeal.τ).loc Cert.AttnBwdKvIdeal.main_arg4)
      ∧ m' ((c.tc : Thread Cert.AttnBwdKvRefIdeal.nD Cert.AttnBwdKvRefIdeal.τ).loc Cert.AttnBwdKvRefIdeal.main_arg5) = m ((c.tc : Thread Cert.AttnBwdKvIdeal.nD Cert.AttnBwdKvIdeal.τ).loc Cert.AttnBwdKvIdeal.main_arg5)) →
    ∃ (v0 : (c : Dev Cert.AttnBwdKvIdeal.nD) → Buf (Elt Ideal) ((c.tc : Thread Cert.AttnBwdKvIdeal.nD Cert.AttnBwdKvIdeal.τ).loc Cert.AttnBwdKvIdeal.main_v3_0)) (v1 : (c : Dev Cert.AttnBwdKvIdeal.nD) → Buf (Elt Ideal) ((c.tc : Thread Cert.AttnBwdKvIdeal.nD Cert.AttnBwdKvIdeal.τ).loc Cert.AttnBwdKvIdeal.main_v3_1)) (v2 : (c : Dev Cert.AttnBwdKvIdeal.nD) → Buf (Elt Ideal) ((c.tc : Thread Cert.AttnBwdKvIdeal.nD Cert.AttnBwdKvIdeal.τ).loc Cert.AttnBwdKvIdeal.main_v3_2)),
      θ_run (Cert.AttnBwdKvIdeal.defs (F := Ideal)) (onTc (τ := Cert.AttnBwdKvIdeal.τ) (Cert.AttnBwdKvIdeal.main (F := Ideal))) ⟨m, fun _ => 0, g⟩ (fun r => ∀ c : Dev Cert.AttnBwdKvIdeal.nD,
          r.2.mem ((c.tc : Thread Cert.AttnBwdKvIdeal.nD Cert.AttnBwdKvIdeal.τ).loc Cert.AttnBwdKvIdeal.main_v3_0) = v0 c
          ∧ r.2.mem ((c.tc : Thread Cert.AttnBwdKvIdeal.nD Cert.AttnBwdKvIdeal.τ).loc Cert.AttnBwdKvIdeal.main_v3_1) = v1 c
          ∧ r.2.mem ((c.tc : Thread Cert.AttnBwdKvIdeal.nD Cert.AttnBwdKvIdeal.τ).loc Cert.AttnBwdKvIdeal.main_v3_2) = v2 c
          ∧ r.2.mem ((c.tc : Thread Cert.AttnBwdKvIdeal.nD Cert.AttnBwdKvIdeal.τ).loc Cert.AttnBwdKvIdeal.main_arg0) = m ((c.tc : Thread Cert.AttnBwdKvIdeal.nD Cert.AttnBwdKvIdeal.τ).loc Cert.AttnBwdKvIdeal.main_arg0)
          ∧ r.2.mem ((c.tc : Thread Cert.AttnBwdKvIdeal.nD Cert.AttnBwdKvIdeal.τ).loc Cert.AttnBwdKvIdeal.main_arg1) = m ((c.tc : Thread Cert.AttnBwdKvIdeal.nD Cert.AttnBwdKvIdeal.τ).loc Cert.AttnBwdKvIdeal.main_arg1)
          ∧ r.2.mem ((c.tc : Thread Cert.AttnBwdKvIdeal.nD Cert.AttnBwdKvIdeal.τ).loc Cert.AttnBwdKvIdeal.main_arg2) = m ((c.tc : Thread Cert.AttnBwdKvIdeal.nD Cert.AttnBwdKvIdeal.τ).loc Cert.AttnBwdKvIdeal.main_arg2)
          ∧ r.2.mem ((c.tc : Thread Cert.AttnBwdKvIdeal.nD Cert.AttnBwdKvIdeal.τ).loc Cert.AttnBwdKvIdeal.main_arg3) = m ((c.tc : Thread Cert.AttnBwdKvIdeal.nD Cert.AttnBwdKvIdeal.τ).loc Cert.AttnBwdKvIdeal.main_arg3)
          ∧ r.2.mem ((c.tc : Thread Cert.AttnBwdKvIdeal.nD Cert.AttnBwdKvIdeal.τ).loc Cert.AttnBwdKvIdeal.main_arg4) = m ((c.tc : Thread Cert.AttnBwdKvIdeal.nD Cert.AttnBwdKvIdeal.τ).loc Cert.AttnBwdKvIdeal.main_arg4)
          ∧ r.2.mem ((c.tc : Thread Cert.AttnBwdKvIdeal.nD Cert.AttnBwdKvIdeal.τ).loc Cert.AttnBwdKvIdeal.main_arg5) = m ((c.tc : Thread Cert.AttnBwdKvIdeal.nD Cert.AttnBwdKvIdeal.τ).loc Cert.AttnBwdKvIdeal.main_arg5))
      ∧ θ_run (Cert.AttnBwdKvRefIdeal.defs (F := Ideal)) (onTc (τ := Cert.AttnBwdKvRefIdeal.τ) (Cert.AttnBwdKvRefIdeal.main (F := Ideal))) ⟨m', fun _ => 0, g'⟩ (fun r => ∀ c : Dev Cert.AttnBwdKvRefIdeal.nD,
          r.2.mem ((c.tc : Thread Cert.AttnBwdKvRefIdeal.nD Cert.AttnBwdKvRefIdeal.τ).loc Cert.AttnBwdKvRefIdeal.main_v81) = v0 c
          ∧ r.2.mem ((c.tc : Thread Cert.AttnBwdKvRefIdeal.nD Cert.AttnBwdKvRefIdeal.τ).loc Cert.AttnBwdKvRefIdeal.main_v84) = v1 c
          ∧ r.2.mem ((c.tc : Thread Cert.AttnBwdKvRefIdeal.nD Cert.AttnBwdKvRefIdeal.τ).loc Cert.AttnBwdKvRefIdeal.main_v85) = v2 c
          ∧ r.2.mem ((c.tc : Thread Cert.AttnBwdKvRefIdeal.nD Cert.AttnBwdKvRefIdeal.τ).loc Cert.AttnBwdKvRefIdeal.main_arg0) = m' ((c.tc : Thread Cert.AttnBwdKvRefIdeal.nD Cert.AttnBwdKvRefIdeal.τ).loc Cert.AttnBwdKvRefIdeal.main_arg0)
          ∧ r.2.mem ((c.tc : Thread Cert.AttnBwdKvRefIdeal.nD Cert.AttnBwdKvRefIdeal.τ).loc Cert.AttnBwdKvRefIdeal.main_arg1) = m' ((c.tc : Thread Cert.AttnBwdKvRefIdeal.nD Cert.AttnBwdKvRefIdeal.τ).loc Cert.AttnBwdKvRefIdeal.main_arg1)
          ∧ r.2.mem ((c.tc : Thread Cert.AttnBwdKvRefIdeal.nD Cert.AttnBwdKvRefIdeal.τ).loc Cert.AttnBwdKvRefIdeal.main_arg2) = m' ((c.tc : Thread Cert.AttnBwdKvRefIdeal.nD Cert.AttnBwdKvRefIdeal.τ).loc Cert.AttnBwdKvRefIdeal.main_arg2)
          ∧ r.2.mem ((c.tc : Thread Cert.AttnBwdKvRefIdeal.nD Cert.AttnBwdKvRefIdeal.τ).loc Cert.AttnBwdKvRefIdeal.main_arg3) = m' ((c.tc : Thread Cert.AttnBwdKvRefIdeal.nD Cert.AttnBwdKvRefIdeal.τ).loc Cert.AttnBwdKvRefIdeal.main_arg3)
          ∧ r.2.mem ((c.tc : Thread Cert.AttnBwdKvRefIdeal.nD Cert.AttnBwdKvRefIdeal.τ).loc Cert.AttnBwdKvRefIdeal.main_arg4) = m' ((c.tc : Thread Cert.AttnBwdKvRefIdeal.nD Cert.AttnBwdKvRefIdeal.τ).loc Cert.AttnBwdKvRefIdeal.main_arg4)
          ∧ r.2.mem ((c.tc : Thread Cert.AttnBwdKvRefIdeal.nD Cert.AttnBwdKvRefIdeal.τ).loc Cert.AttnBwdKvRefIdeal.main_arg5) = m' ((c.tc : Thread Cert.AttnBwdKvRefIdeal.nD Cert.AttnBwdKvRefIdeal.τ).loc Cert.AttnBwdKvRefIdeal.main_arg5))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MixnormFwd_MixnormFwdIdeal : Prop :=
  True

def algebraic_MixnormFwdIdeal_MixnormFwdRefIdeal [hMixnormFwdIdeal : Cert.MixnormFwdIdeal.Facts] [hMixnormFwdRefIdeal : Cert.MixnormFwdRefIdeal.Facts] : Prop :=
  ∀ (m : (ℓ : Loc Cert.MixnormFwdIdeal.nD Cert.MixnormFwdIdeal.τ Cert.MixnormFwdIdeal.sig) → Buf (Elt Ideal) ℓ) (g : Dev Cert.MixnormFwdIdeal.nD → PrngReg)
    (m' : (ℓ : Loc Cert.MixnormFwdRefIdeal.nD Cert.MixnormFwdRefIdeal.τ Cert.MixnormFwdRefIdeal.sig) → Buf (Elt Ideal) ℓ) (g' : Dev Cert.MixnormFwdRefIdeal.nD → PrngReg), Pre_MixnormFwdIdeal m →
    (∀ c : Dev Cert.MixnormFwdIdeal.nD,
      m' ((c.tc : Thread Cert.MixnormFwdRefIdeal.nD Cert.MixnormFwdRefIdeal.τ).loc Cert.MixnormFwdRefIdeal.main_arg0) = m ((c.tc : Thread Cert.MixnormFwdIdeal.nD Cert.MixnormFwdIdeal.τ).loc Cert.MixnormFwdIdeal.main_arg0)
      ∧ m' ((c.tc : Thread Cert.MixnormFwdRefIdeal.nD Cert.MixnormFwdRefIdeal.τ).loc Cert.MixnormFwdRefIdeal.main_arg1) = m ((c.tc : Thread Cert.MixnormFwdIdeal.nD Cert.MixnormFwdIdeal.τ).loc Cert.MixnormFwdIdeal.main_arg1)
      ∧ m' ((c.tc : Thread Cert.MixnormFwdRefIdeal.nD Cert.MixnormFwdRefIdeal.τ).loc Cert.MixnormFwdRefIdeal.main_arg2) = m ((c.tc : Thread Cert.MixnormFwdIdeal.nD Cert.MixnormFwdIdeal.τ).loc Cert.MixnormFwdIdeal.main_arg2)
      ∧ m' ((c.tc : Thread Cert.MixnormFwdRefIdeal.nD Cert.MixnormFwdRefIdeal.τ).loc Cert.MixnormFwdRefIdeal.main_arg3) = m ((c.tc : Thread Cert.MixnormFwdIdeal.nD Cert.MixnormFwdIdeal.τ).loc Cert.MixnormFwdIdeal.main_arg3)) →
    ∃ (v0 : (c : Dev Cert.MixnormFwdIdeal.nD) → Buf (Elt Ideal) ((c.tc : Thread Cert.MixnormFwdIdeal.nD Cert.MixnormFwdIdeal.τ).loc Cert.MixnormFwdIdeal.main_v1_0)),
      θ_run (Cert.MixnormFwdIdeal.defs (F := Ideal)) (onTc (τ := Cert.MixnormFwdIdeal.τ) (Cert.MixnormFwdIdeal.main (F := Ideal))) ⟨m, fun _ => 0, g⟩ (fun r => ∀ c : Dev Cert.MixnormFwdIdeal.nD,
          r.2.mem ((c.tc : Thread Cert.MixnormFwdIdeal.nD Cert.MixnormFwdIdeal.τ).loc Cert.MixnormFwdIdeal.main_v1_0) = v0 c
          ∧ r.2.mem ((c.tc : Thread Cert.MixnormFwdIdeal.nD Cert.MixnormFwdIdeal.τ).loc Cert.MixnormFwdIdeal.main_arg0) = m ((c.tc : Thread Cert.MixnormFwdIdeal.nD Cert.MixnormFwdIdeal.τ).loc Cert.MixnormFwdIdeal.main_arg0)
          ∧ r.2.mem ((c.tc : Thread Cert.MixnormFwdIdeal.nD Cert.MixnormFwdIdeal.τ).loc Cert.MixnormFwdIdeal.main_arg1) = m ((c.tc : Thread Cert.MixnormFwdIdeal.nD Cert.MixnormFwdIdeal.τ).loc Cert.MixnormFwdIdeal.main_arg1)
          ∧ r.2.mem ((c.tc : Thread Cert.MixnormFwdIdeal.nD Cert.MixnormFwdIdeal.τ).loc Cert.MixnormFwdIdeal.main_arg2) = m ((c.tc : Thread Cert.MixnormFwdIdeal.nD Cert.MixnormFwdIdeal.τ).loc Cert.MixnormFwdIdeal.main_arg2)
          ∧ r.2.mem ((c.tc : Thread Cert.MixnormFwdIdeal.nD Cert.MixnormFwdIdeal.τ).loc Cert.MixnormFwdIdeal.main_arg3) = m ((c.tc : Thread Cert.MixnormFwdIdeal.nD Cert.MixnormFwdIdeal.τ).loc Cert.MixnormFwdIdeal.main_arg3))
      ∧ θ_run (Cert.MixnormFwdRefIdeal.defs (F := Ideal)) (onTc (τ := Cert.MixnormFwdRefIdeal.τ) (Cert.MixnormFwdRefIdeal.main (F := Ideal))) ⟨m', fun _ => 0, g'⟩ (fun r => ∀ c : Dev Cert.MixnormFwdRefIdeal.nD,
          r.2.mem ((c.tc : Thread Cert.MixnormFwdRefIdeal.nD Cert.MixnormFwdRefIdeal.τ).loc Cert.MixnormFwdRefIdeal.main_v43) = v0 c
          ∧ r.2.mem ((c.tc : Thread Cert.MixnormFwdRefIdeal.nD Cert.MixnormFwdRefIdeal.τ).loc Cert.MixnormFwdRefIdeal.main_arg0) = m' ((c.tc : Thread Cert.MixnormFwdRefIdeal.nD Cert.MixnormFwdRefIdeal.τ).loc Cert.MixnormFwdRefIdeal.main_arg0)
          ∧ r.2.mem ((c.tc : Thread Cert.MixnormFwdRefIdeal.nD Cert.MixnormFwdRefIdeal.τ).loc Cert.MixnormFwdRefIdeal.main_arg1) = m' ((c.tc : Thread Cert.MixnormFwdRefIdeal.nD Cert.MixnormFwdRefIdeal.τ).loc Cert.MixnormFwdRefIdeal.main_arg1)
          ∧ r.2.mem ((c.tc : Thread Cert.MixnormFwdRefIdeal.nD Cert.MixnormFwdRefIdeal.τ).loc Cert.MixnormFwdRefIdeal.main_arg2) = m' ((c.tc : Thread Cert.MixnormFwdRefIdeal.nD Cert.MixnormFwdRefIdeal.τ).loc Cert.MixnormFwdRefIdeal.main_arg2)
          ∧ r.2.mem ((c.tc : Thread Cert.MixnormFwdRefIdeal.nD Cert.MixnormFwdRefIdeal.τ).loc Cert.MixnormFwdRefIdeal.main_arg3) = m' ((c.tc : Thread Cert.MixnormFwdRefIdeal.nD Cert.MixnormFwdRefIdeal.τ).loc Cert.MixnormFwdRefIdeal.main_arg3))

def Claim : Prop :=
  ∃ (hDwDown : Cert.DwDown.Facts) (hDwDownIdeal : Cert.DwDownIdeal.Facts) (hDwDownRefIdeal : Cert.DwDownRefIdeal.Facts) (hDup : Cert.Dup.Facts) (hDupIdeal : Cert.DupIdeal.Facts) (hDupRefIdeal : Cert.DupRefIdeal.Facts) (hDwUp : Cert.DwUp.Facts) (hDwUpIdeal : Cert.DwUpIdeal.Facts) (hDwUpRefIdeal : Cert.DwUpRefIdeal.Facts) (hDh2 : Cert.Dh2.Facts) (hDh2Ideal : Cert.Dh2Ideal.Facts) (hDh2RefIdeal : Cert.Dh2RefIdeal.Facts) (hDwOut : Cert.DwOut.Facts) (hDwOutIdeal : Cert.DwOutIdeal.Facts) (hDwOutRefIdeal : Cert.DwOutRefIdeal.Facts) (hDmix : Cert.Dmix.Facts) (hDmixIdeal : Cert.DmixIdeal.Facts) (hDmixRefIdeal : Cert.DmixRefIdeal.Facts) (hDwIn : Cert.DwIn.Facts) (hDwInIdeal : Cert.DwInIdeal.Facts) (hDwInRefIdeal : Cert.DwInRefIdeal.Facts) (hDh1 : Cert.Dh1.Facts) (hDh1Ideal : Cert.Dh1Ideal.Facts) (hDh1RefIdeal : Cert.Dh1RefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hRmsBwd : Cert.RmsBwd.Facts) (hRmsBwdIdeal : Cert.RmsBwdIdeal.Facts) (hRmsBwdRefIdeal : Cert.RmsBwdRefIdeal.Facts) (hMixnormBwd : Cert.MixnormBwd.Facts) (hMixnormBwdIdeal : Cert.MixnormBwdIdeal.Facts) (hMixnormBwdRefIdeal : Cert.MixnormBwdRefIdeal.Facts) (hAttnBwdKv : Cert.AttnBwdKv.Facts) (hAttnBwdKvIdeal : Cert.AttnBwdKvIdeal.Facts) (hAttnBwdKvRefIdeal : Cert.AttnBwdKvRefIdeal.Facts) (hRmsFwd : Cert.RmsFwd.Facts) (hRmsFwdIdeal : Cert.RmsFwdIdeal.Facts) (hRmsFwdRefIdeal : Cert.RmsFwdRefIdeal.Facts) (hMixnormFwd : Cert.MixnormFwd.Facts) (hMixnormFwdIdeal : Cert.MixnormFwdIdeal.Facts) (hMixnormFwdRefIdeal : Cert.MixnormFwdRefIdeal.Facts),
    quiescent_DwDown (hDwDown := hDwDown)
    ∧ quiescent_DwDownIdeal (hDwDownIdeal := hDwDownIdeal)
    ∧ quiescent_DwDownRefIdeal (hDwDownRefIdeal := hDwDownRefIdeal)
    ∧ quiescent_Dup (hDup := hDup)
    ∧ quiescent_DupIdeal (hDupIdeal := hDupIdeal)
    ∧ quiescent_DupRefIdeal (hDupRefIdeal := hDupRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dmix (hDmix := hDmix)
    ∧ quiescent_DmixIdeal (hDmixIdeal := hDmixIdeal)
    ∧ quiescent_DmixRefIdeal (hDmixRefIdeal := hDmixRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_MixnormBwd (hMixnormBwd := hMixnormBwd)
    ∧ quiescent_MixnormBwdIdeal (hMixnormBwdIdeal := hMixnormBwdIdeal)
    ∧ quiescent_MixnormBwdRefIdeal (hMixnormBwdRefIdeal := hMixnormBwdRefIdeal)
    ∧ quiescent_AttnBwdKv (hAttnBwdKv := hAttnBwdKv)
    ∧ quiescent_AttnBwdKvIdeal (hAttnBwdKvIdeal := hAttnBwdKvIdeal)
    ∧ quiescent_AttnBwdKvRefIdeal (hAttnBwdKvRefIdeal := hAttnBwdKvRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MixnormFwd (hMixnormFwd := hMixnormFwd)
    ∧ quiescent_MixnormFwdIdeal (hMixnormFwdIdeal := hMixnormFwdIdeal)
    ∧ quiescent_MixnormFwdRefIdeal (hMixnormFwdRefIdeal := hMixnormFwdRefIdeal)
    ∧ preserves_DwDown_DwDownIdeal
    ∧ algebraic_DwDownIdeal_DwDownRefIdeal (hDwDownIdeal := hDwDownIdeal) (hDwDownRefIdeal := hDwDownRefIdeal)
    ∧ preserves_Dup_DupIdeal
    ∧ algebraic_DupIdeal_DupRefIdeal (hDupIdeal := hDupIdeal) (hDupRefIdeal := hDupRefIdeal)
    ∧ preserves_DwUp_DwUpIdeal
    ∧ algebraic_DwUpIdeal_DwUpRefIdeal (hDwUpIdeal := hDwUpIdeal) (hDwUpRefIdeal := hDwUpRefIdeal)
    ∧ preserves_Dh2_Dh2Ideal
    ∧ algebraic_Dh2Ideal_Dh2RefIdeal (hDh2Ideal := hDh2Ideal) (hDh2RefIdeal := hDh2RefIdeal)
    ∧ preserves_DwOut_DwOutIdeal
    ∧ algebraic_DwOutIdeal_DwOutRefIdeal (hDwOutIdeal := hDwOutIdeal) (hDwOutRefIdeal := hDwOutRefIdeal)
    ∧ preserves_Dmix_DmixIdeal
    ∧ algebraic_DmixIdeal_DmixRefIdeal (hDmixIdeal := hDmixIdeal) (hDmixRefIdeal := hDmixRefIdeal)
    ∧ preserves_DwIn_DwInIdeal
    ∧ algebraic_DwInIdeal_DwInRefIdeal (hDwInIdeal := hDwInIdeal) (hDwInRefIdeal := hDwInRefIdeal)
    ∧ preserves_Dh1_Dh1Ideal
    ∧ algebraic_Dh1Ideal_Dh1RefIdeal (hDh1Ideal := hDh1Ideal) (hDh1RefIdeal := hDh1RefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_MixnormBwd_MixnormBwdIdeal
    ∧ algebraic_MixnormBwdIdeal_MixnormBwdRefIdeal (hMixnormBwdIdeal := hMixnormBwdIdeal) (hMixnormBwdRefIdeal := hMixnormBwdRefIdeal)
    ∧ preserves_AttnBwdKv_AttnBwdKvIdeal
    ∧ algebraic_AttnBwdKvIdeal_AttnBwdKvRefIdeal (hAttnBwdKvIdeal := hAttnBwdKvIdeal) (hAttnBwdKvRefIdeal := hAttnBwdKvRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MixnormFwd_MixnormFwdIdeal
    ∧ algebraic_MixnormFwdIdeal_MixnormFwdRefIdeal (hMixnormFwdIdeal := hMixnormFwdIdeal) (hMixnormFwdRefIdeal := hMixnormFwdRefIdeal)
-- ==== DwDown.lean ====
abbrev S2048x8192 : Shape := ⟨2, ![2048, 8192]⟩
abbrev S2048x2048 : Shape := ⟨2, ![2048, 2048]⟩
abbrev S_ : Shape := ⟨0, ![]⟩
abbrev S4x2048x2048 : Shape := ⟨3, ![4, 2048, 2048]⟩
abbrev S8x128 : Shape := ⟨2, ![8, 128]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 12
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .bf16⟩
  | .hbm, ⟨9, _⟩ => ⟨S2048x2048, .bf16⟩
  | .hbm, ⟨10, _⟩ => ⟨S4x2048x2048, .bf16⟩
  | .hbm, ⟨11, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S8x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== DwDownRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S4x2048x2048 : Shape := ⟨3, ![4, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x8192, .f32⟩
  | .hbm, ⟨10, _⟩ => ⟨S8192x2048, .f32⟩
  | .hbm, ⟨11, _⟩ => ⟨S4x2048x2048, .f32⟩
  | .hbm, ⟨12, _⟩ => ⟨S4x2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dup.lean ====
abbrev S2048x8192 : Shape := ⟨2, ![2048, 8192]⟩
abbrev S8192x2048 : Shape := ⟨2, ![8192, 2048]⟩
abbrev S2048x2048 : Shape := ⟨2, ![2048, 2048]⟩
abbrev S4x2048x2048 : Shape := ⟨3, ![4, 2048, 2048]⟩
abbrev S8x128 : Shape := ⟨2, ![8, 128]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S4x2048x2048, .bf16⟩
  | .hbm, ⟨6, _⟩ => ⟨S2048x8192, .bf16⟩
  | .hbm, ⟨7, _⟩ => ⟨S2048x8192, .bf16⟩
  | .hbm, ⟨8, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== DupRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DwUp.lean ====
abbrev S2048x2048 : Shape := ⟨2, ![2048, 2048]⟩
abbrev S2048x8192 : Shape := ⟨2, ![2048, 8192]⟩
abbrev S4x2048x2048 : Shape := ⟨3, ![4, 2048, 2048]⟩
abbrev S8x128 : Shape := ⟨2, ![8, 128]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x2048, .bf16⟩
  | .hbm, ⟨5, _⟩ => ⟨S8x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== DwUpRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | .hbm, ⟨9, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh2.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S8x128 : Shape := ⟨2, ![8, 128]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S2048x2048, .f32⟩
  | .hbm, ⟨7, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== Dh2RefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwOut.lean ====
abbrev S2048x2048 : Shape := ⟨2, ![2048, 2048]⟩
abbrev S4x512x2048 : Shape := ⟨3, ![4, 512, 2048]⟩
abbrev S8x128 : Shape := ⟨2, ![8, 128]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S4x512x2048, .bf16⟩
  | .hbm, ⟨5, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== DwOutRefIdeal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S4x512x2048, .f32⟩
  | .hbm, ⟨8, _⟩ => ⟨S4x512x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dmix.lean ====
abbrev S2048x2048 : Shape := ⟨2, ![2048, 2048]⟩
abbrev S4x512x2048 : Shape := ⟨3, ![4, 512, 2048]⟩
abbrev S8x128 : Shape := ⟨2, ![8, 128]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S4x512x2048, .bf16⟩
  | .hbm, ⟨5, _⟩ => ⟨S2048x2048, .f32⟩
  | .hbm, ⟨6, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== DmixRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwIn.lean ====
abbrev S2048x2048 : Shape := ⟨2, ![2048, 2048]⟩
abbrev S2048x3584 : Shape := ⟨2, ![2048, 3584]⟩
abbrev S4x2048x896 : Shape := ⟨3, ![4, 2048, 896]⟩
abbrev S8x128 : Shape := ⟨2, ![8, 128]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x3584, .f32⟩
  | .hbm, ⟨2, _⟩ => ⟨S2048x2048, .bf16⟩
  | .hbm, ⟨3, _⟩ => ⟨S2048x3584, .bf16⟩
  | .hbm, ⟨4, _⟩ => ⟨S4x2048x896, .bf16⟩
  | .hbm, ⟨5, _⟩ => ⟨S8x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== DwInRefIdeal.lean ====
abbrev S2048x2048 : Shape := ⟨2, ![2048, 2048]⟩
abbrev S2048x3584 : Shape := ⟨2, ![2048, 3584]⟩
abbrev S_ : Shape := ⟨0, ![]⟩
abbrev S3584x2048 : Shape := ⟨2, ![3584, 2048]⟩
abbrev S2048x4x896 : Shape := ⟨3, ![2048, 4, 896]⟩
abbrev S4x2048x896 : Shape := ⟨3, ![4, 2048, 896]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3584, .f32⟩
  | .hbm, ⟨2, _⟩ => ⟨S_, .f32⟩
  | .hbm, ⟨3, _⟩ => ⟨S2048x3584, .f32⟩
  | .hbm, ⟨4, _⟩ => ⟨S2048x3584, .f32⟩
  | .hbm, ⟨5, _⟩ => ⟨S3584x2048, .f32⟩
  | .hbm, ⟨6, _⟩ => ⟨S2048x3584, .f32⟩
  | .hbm, ⟨7, _⟩ => ⟨S2048x4x896, .f32⟩
  | .hbm, ⟨8, _⟩ => ⟨S4x2048x896, .f32⟩
  | .hbm, ⟨9, _⟩ => ⟨S4x2048x896, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh1.lean ====
abbrev S2048x3584 : Shape := ⟨2, ![2048, 3584]⟩
abbrev S2048x4x896 : Shape := ⟨3, ![2048, 4, 896]⟩
abbrev S4x2048x896 : Shape := ⟨3, ![4, 2048, 896]⟩
abbrev S2048x2048 : Shape := ⟨2, ![2048, 2048]⟩
abbrev S8x128 : Shape := ⟨2, ![8, 128]⟩
abbrev S512x3584 : Shape := ⟨2, ![512, 3584]⟩
abbrev S512x2048 : Shape := ⟨2, ![512, 2048]⟩
abbrev S512x896 : Shape := ⟨2, ![512, 896]⟩
abbrev S1x2048x896 : Shape := ⟨3, ![1, 2048, 896]⟩
abbrev S2048x896 : Shape := ⟨2, ![2048, 896]⟩

abbrev nBuf : Space → Nat
  | .hbm => 8
  | .vmem => 6
  | .smem => 0
  | _ => 0

abbrev bufTy : (tb : Table) → Fin (tcTables nBuf tb) → BufTy
  | .hbm, ⟨0, _⟩ => ⟨S2048x3584, .f32⟩
  | .hbm, ⟨1, _⟩ => ⟨S2048x3584, .f32⟩
  | .hbm, ⟨2, _⟩ => ⟨S2048x3584, .bf16⟩
  | .hbm, ⟨3, _⟩ => ⟨S2048x3584, .bf16⟩
  | .hbm, ⟨4, _⟩ => ⟨S2048x4x896, .bf16⟩
  | .hbm, ⟨5, _⟩ => ⟨S4x2048x896, .bf16⟩
  | .hbm, ⟨6, _⟩ => ⟨S2048x2048, .f32⟩
  | .hbm, ⟨7, _⟩ => ⟨S8x128, .f32⟩
  | .local _ .vmem, ⟨0, _⟩ => ⟨S512x3584, .bf16⟩
  | .local _ .vmem, ⟨1, _⟩ => ⟨S512x3584, .bf16⟩
  | .local _ .vmem, ⟨2, _⟩ => ⟨S4x2048x896, .bf16⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== Dh1RefIdeal.lean ====
abbrev S2048x3584 : Shape := ⟨2, ![2048, 3584]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2048x3584, .f32⟩
  | .hbm, ⟨2, _⟩ => ⟨S_, .f32⟩
  | .hbm, ⟨3, _⟩ => ⟨S2048x2048, .f32⟩
  | .hbm, ⟨4, _⟩ => ⟨S2048x3584, .f32⟩
  | .hbm, ⟨5, _⟩ => ⟨S2048x2048, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proj.lean ====
abbrev S2048x2048 : Shape := ⟨2, ![2048, 2048]⟩
abbrev S2048x3584 : Shape := ⟨2, ![2048, 3584]⟩
abbrev S2048x4x896 : Shape := ⟨3, ![2048, 4, 896]⟩
abbrev S4x2048x896 : Shape := ⟨3, ![4, 2048, 896]⟩
abbrev S8x128 : Shape := ⟨2, ![8, 128]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x3584, .f32⟩
  | .hbm, ⟨2, _⟩ => ⟨S2048x2048, .bf16⟩
  | .hbm, ⟨3, _⟩ => ⟨S2048x3584, .bf16⟩
  | .hbm, ⟨4, _⟩ => ⟨S2048x4x896, .bf16⟩
  | .hbm, ⟨5, _⟩ => ⟨S4x2048x896, .bf16⟩
  | .hbm, ⟨6, _⟩ => ⟨S2048x3584, .f32⟩
  | .hbm, ⟨7, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== ProjRefIdeal.lean ====
abbrev S2048x2048 : Shape := ⟨2, ![2048, 2048]⟩
abbrev S2048x3584 : Shape := ⟨2, ![2048, 3584]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3584, .f32⟩
  | .hbm, ⟨2, _⟩ => ⟨S2048x3584, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S2048x2048 : Shape := ⟨2, ![2048, 2048]⟩
abbrev S2048 : Shape := ⟨1, ![2048]⟩
abbrev S4x512x2048 : Shape := ⟨3, ![4, 512, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S2048x2048, .bf16⟩
  | .hbm, ⟨6, _⟩ => ⟨S4x512x2048, .bf16⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== OutRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Up.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8x128 : Shape := ⟨2, ![8, 128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S2048x8192, .bf16⟩
  | .hbm, ⟨7, _⟩ => ⟨S2048x8192, .bf16⟩
  | .hbm, ⟨8, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== UpRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S4x2048x2048 : Shape := ⟨3, ![4, 2048, 2048]⟩
abbrev S8x128 : Shape := ⟨2, ![8, 128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 14
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | .hbm, ⟨10, _⟩ => ⟨S8192x2048, .bf16⟩
  | .hbm, ⟨11, _⟩ => ⟨S4x2048x2048, .bf16⟩
  | .hbm, ⟨12, _⟩ => ⟨S2048x2048, .f32⟩
  | .hbm, ⟨13, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | .local _ .vmem, ⟨9, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== DownRefIdeal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== RmsBwd.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixnormBwd.lean ====
abbrev S2048x2048 : Shape := ⟨2, ![2048, 2048]⟩
abbrev S2048x1024 : Shape := ⟨2, ![2048, 1024]⟩
abbrev S2048x512 : Shape := ⟨2, ![2048, 512]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1024 : Shape := ⟨2, ![1, 1024]⟩
abbrev S1024 : Shape := ⟨1, ![1024]⟩
abbrev S1x512 : Shape := ⟨2, ![1, 512]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S2048, .f32⟩
  | .hbm, ⟨5, _⟩ => ⟨S1x2048, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S1x2048, .f32⟩
  | .hbm, ⟨10, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x2048, .f32⟩
  | .local _ .vmem, ⟨9, _⟩ => ⟨S256x1024, .f32⟩
  | .local _ .vmem, ⟨10, _⟩ => ⟨S256x1024, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S1x2048, .f32⟩
  | .local _ .vmem, ⟨16, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixnormBwdRefIdeal.lean ====
abbrev S2048x2048 : Shape := ⟨2, ![2048, 2048]⟩
abbrev S2048x1024 : Shape := ⟨2, ![2048, 1024]⟩
abbrev S2048x512 : Shape := ⟨2, ![2048, 512]⟩
abbrev S2048 : Shape := ⟨1, ![2048]⟩
abbrev S1024 : Shape := ⟨1, ![1024]⟩
abbrev S_ : Shape := ⟨0, ![]⟩
abbrev S2048x1 : Shape := ⟨2, ![2048, 1]⟩
abbrev S1x1024 : Shape := ⟨2, ![1, 1024]⟩
abbrev S512 : Shape := ⟨1, ![512]⟩
abbrev S1x512 : Shape := ⟨2, ![1, 512]⟩
abbrev S1x2048 : Shape := ⟨2, ![1, 2048]⟩

abbrev nBuf : Space → Nat
  | .hbm => 156
  | .vmem => 0
  | .smem => 0
  | _ => 0

abbrev hbmTy0_0 (i : Nat) : BufTy := match i % 128 with
  | 0 => ⟨S2048x2048, .f32⟩
  | 1 => ⟨S2048x1024, .f32⟩
  | 2 => ⟨S2048x512, .f32⟩
  | 3 => ⟨S2048x512, .f32⟩
  | 4 => ⟨S2048, .f32⟩
  | 5 => ⟨S1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S1x1024, .f32⟩
  | 24 => ⟨S2048x1024, .f32⟩
  | 25 => ⟨S2048x1024, .f32⟩
  | 26 => ⟨S512, .f32⟩
  | 27 => ⟨S2048x512, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S2048x512, .f32⟩
  | 43 => ⟨S2048x512, .f32⟩
  | 44 => ⟨S1x512, .f32⟩
  | 45 => ⟨S2048x512, .f32⟩
  | 46 => ⟨S2048x512, .f32⟩
  | 47 => ⟨S512, .f32⟩
  | 48 => ⟨S2048x512, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x512, .f32⟩
  | 64 => ⟨S2048x512, .f32⟩
  | 65 => ⟨S1x512, .f32⟩
  | 66 => ⟨S2048x512, .f32⟩
  | 67 => ⟨S2048x512, .f32⟩
  | 68 => ⟨S2048x2048, .f32⟩
  | 69 => ⟨S2048x1024, .f32⟩
  | 70 => ⟨S2048x512, .f32⟩
  | 71 => ⟨S2048x512, .f32⟩
  | 72 => ⟨S2048x512, .f32⟩
  | 73 => ⟨S_, .f32⟩
  | 74 => ⟨S512, .f32⟩
  | 75 => ⟨S1x512, .f32⟩
  | 76 => ⟨S2048x512, .f32⟩
  | 77 => ⟨S2048x512, .f32⟩
  | 78 => ⟨S_, .f32⟩
  | 79 => ⟨S512, .f32⟩
  | 80 => ⟨S2048x512, .f32⟩
  | 81 => ⟨S_, .f32⟩
  | 82 => ⟨S2048, .f32⟩
  | 83 => ⟨S2048x1, .f32⟩
  | 84 => ⟨S2048x512, .f32⟩
  | 85 => ⟨S2048x512, .f32⟩
  | 86 => ⟨S2048x1, .f32⟩
  | 87 => ⟨S_, .f32⟩
  | 88 => ⟨S2048x1, .f32⟩
  | 89 => ⟨S2048x1, .f32⟩
  | 90 => ⟨S_, .f32⟩
  | 91 => ⟨S2048, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S_, .f32⟩
  | 98 => ⟨S2048, .f32⟩
  | 99 => ⟨S2048x512, .f32⟩
  | 100 => ⟨S_, .f32⟩
  | 101 => ⟨S512, .f32⟩
  | 102 => ⟨S1x512, .f32⟩
  | 103 => ⟨S2048x512, .f32⟩
  | 104 => ⟨S2048x512, .f32⟩
  | 105 => ⟨S_, .f32⟩
  | 106 => ⟨S512, .f32⟩
  | 107 => ⟨S2048x512, .f32⟩
  | 108 => ⟨S_, .f32⟩
  | 109 => ⟨S2048, .f32⟩
  | 110 => ⟨S2048x1, .f32⟩
  | 111 => ⟨S2048x512, .f32⟩
  | 112 => ⟨S2048x512, .f32⟩
  | 113 => ⟨S2048x1, .f32⟩
  | 114 => ⟨S_, .f32⟩
  | 115 => ⟨S2048x1, .f32⟩
  | 116 => ⟨S2048x1, .f32⟩
  | 117 => ⟨S_, .f32⟩
  | 118 => ⟨S2048, .f32⟩
  | 119 => ⟨S2048x512, .f32⟩
  | 120 => ⟨S2048x512, .f32⟩
  | 121 => ⟨S2048x512, .f32⟩
  | 122 => ⟨S2048x512, .f32⟩
  | 123 => ⟨S2048x512, .f32⟩
  | 124 => ⟨S_, .f32⟩
  | 125 => ⟨S2048, .f32⟩
  | 126 => ⟨S2048, .f32⟩
  | 127 => ⟨S2048x1024, .f32⟩
  | _ => ⟨S2048x2048, .f32⟩

abbrev hbmTy0_1 (i : Nat) : BufTy := match i % 128 with
  | 0 => ⟨S_, .f32⟩
  | 1 => ⟨S1024, .f32⟩
  | 2 => ⟨S1x1024, .f32⟩
  | 3 => ⟨S2048x1024, .f32⟩
  | 4 => ⟨S2048x1024, .f32⟩
  | 5 => ⟨S_, .f32⟩
  | 6 => ⟨S1024, .f32⟩
  | 7 => ⟨S2048x1024, .f32⟩
  | 8 => ⟨S_, .f32⟩
  | 9 => ⟨S2048, .f32⟩
  | 10 => ⟨S2048x1, .f32⟩
  | 11 => ⟨S2048x1024, .f32⟩
  | 12 => ⟨S2048x1024, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S_, .f32⟩
  | 25 => ⟨S2048, .f32⟩
  | 26 => ⟨S2048, .f32⟩
  | 27 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_cst_19 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_cst_21 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_22 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_23 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_24 : Ref sig .tc := ⟨.hbm, 133, rfl⟩
abbrev main_v103 : Ref sig .tc := ⟨.hbm, 134, rfl⟩
abbrev main_v104 : Ref sig .tc := ⟨.hbm, 135, rfl⟩
abbrev main_cst_25 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_26 : Ref sig .tc := ⟨.hbm, 142, rfl⟩
abbrev main_v110 : Ref sig .tc := ⟨.hbm, 143, rfl⟩
abbrev main_v111 : Ref sig .tc := ⟨.hbm, 144, rfl⟩
abbrev main_cst_27 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_28 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩

abbrev nD : Nat := 1
abbrev τ : Topo := Topo.v7x

variable {F : FTy → Type} [FloatOps F]
-- ==== AttnBwdKv.lean ====
abbrev S2048x256 : Shape := ⟨2, ![2048, 256]⟩
abbrev S64 : Shape := ⟨1, ![64]⟩
abbrev S4x2048x64 : Shape := ⟨3, ![4, 2048, 64]⟩
abbrev S2048x4x64 : Shape := ⟨3, ![2048, 4, 64]⟩
abbrev S1x64 : Shape := ⟨2, ![1, 64]⟩
abbrev S8x128 : Shape := ⟨2, ![8, 128]⟩
abbrev S4x128x64 : Shape := ⟨3, ![4, 128, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 13
  | .vmem => 17
  | .smem => 0
  | _ => 0

abbrev bufTy : (tb : Table) → Fin (tcTables nBuf tb) → BufTy
  | .hbm, ⟨0, _⟩ => ⟨S2048x256, .f32⟩
  | .hbm, ⟨1, _⟩ => ⟨S64, .f32⟩
  | .hbm, ⟨2, _⟩ => ⟨S4x2048x64, .f32⟩
  | .hbm, ⟨3, _⟩ => ⟨S4x2048x64, .f32⟩
  | .hbm, ⟨4, _⟩ => ⟨S4x2048x64, .f32⟩
  | .hbm, ⟨5, _⟩ => ⟨S4x2048x64, .f32⟩
  | .hbm, ⟨6, _⟩ => ⟨S2048x4x64, .f32⟩
  | .hbm, ⟨7, _⟩ => ⟨S4x2048x64, .f32⟩
  | .hbm, ⟨8, _⟩ => ⟨S1x64, .f32⟩
  | .hbm, ⟨9, _⟩ => ⟨S4x2048x64, .bf16⟩
  | .hbm, ⟨10, _⟩ => ⟨S4x2048x64, .bf16⟩
  | .hbm, ⟨11, _⟩ => ⟨S1x64, .f32⟩
  | .hbm, ⟨12, _⟩ => ⟨S8x128, .f32⟩
  | .local _ .vmem, ⟨0, _⟩ => ⟨S4x128x64, .f32⟩
  | .local _ .vmem, ⟨1, _⟩ => ⟨S4x128x64, .f32⟩
  | .local _ .vmem, ⟨2, _⟩ => ⟨S1x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S4x128x64, .f32⟩
  | .local _ .vmem, ⟨11, _⟩ => ⟨S4x128x64, .bf16⟩
  | .local _ .vmem, ⟨12, _⟩ => ⟨S4x128x64, .bf16⟩
  | .local _ .vmem, ⟨13, _⟩ => ⟨S4x128x64, .bf16⟩
  | .local _ .vmem, ⟨14, _⟩ => ⟨S4x128x64, .bf16⟩
  | .local _ .vmem, ⟨15, _⟩ => ⟨S1x64, .f32⟩
  | .local _ .vmem, ⟨16, _⟩ => ⟨S8x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnBwdKvRefIdeal.lean ====
abbrev S2048x256 : Shape := ⟨2, ![2048, 256]⟩
abbrev S64 : Shape := ⟨1, ![64]⟩
abbrev S4x2048x64 : Shape := ⟨3, ![4, 2048, 64]⟩
abbrev S_ : Shape := ⟨0, ![]⟩
abbrev S2048x4x64 : Shape := ⟨3, ![2048, 4, 64]⟩
abbrev S2048x4 : Shape := ⟨2, ![2048, 4]⟩
abbrev S2048x4x1 : Shape := ⟨3, ![2048, 4, 1]⟩
abbrev S1x1x64 : Shape := ⟨3, ![1, 1, 64]⟩
abbrev S16x128x4x64 : Shape := ⟨4, ![16, 128, 4, 64]⟩
abbrev S1x128x4x64 : Shape := ⟨4, ![1, 128, 4, 64]⟩
abbrev S15x128x4x64 : Shape := ⟨4, ![15, 128, 4, 64]⟩
abbrev S16x256x4x64 : Shape := ⟨4, ![16, 256, 4, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S64, .f32⟩
  | .hbm, ⟨2, _⟩ => ⟨S4x2048x64, .f32⟩
  | .hbm, ⟨3, _⟩ => ⟨S4x2048x64, .f32⟩
  | .hbm, ⟨4, _⟩ => ⟨S4x2048x64, .f32⟩
  | .hbm, ⟨5, _⟩ => ⟨S4x2048x64, .f32⟩
  | .hbm, ⟨6, _⟩ => ⟨S_, .f32⟩
  | .hbm, ⟨7, _⟩ => ⟨S2048x256, .f32⟩
  | .hbm, ⟨8, _⟩ => ⟨S2048x4x64, .f32⟩
  | .hbm, ⟨9, _⟩ => ⟨S2048x4x64, .f32⟩
  | .hbm, ⟨10, _⟩ => ⟨S_, .f32⟩
  | .hbm, ⟨11, _⟩ => ⟨S2048x4, .f32⟩
  | .hbm, ⟨12, _⟩ => ⟨S2048x4x1, .f32⟩
  | .hbm, ⟨13, _⟩ => ⟨S_, .f32⟩
  | .hbm, ⟨14, _⟩ => ⟨S2048x4x1, .f32⟩
  | .hbm, ⟨15, _⟩ => ⟨S2048x4x1, .f32⟩
  | .hbm, ⟨16, _⟩ => ⟨S_, .f32⟩
  | .hbm, ⟨17, _⟩ => ⟨S2048x4x1, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S_, .f32⟩
  | .hbm, ⟨22, _⟩ => ⟨S2048x4x1, .f32⟩
  | .hbm, ⟨23, _⟩ => ⟨S2048x4x1, .f32⟩
  | .hbm, ⟨24, _⟩ => ⟨S2048x4x64, .f32⟩
  | .hbm, ⟨25, _⟩ => ⟨S2048x4x64, .f32⟩
  | .hbm, ⟨26, _⟩ => ⟨S1x1x64, .f32⟩
  | .hbm, ⟨27, _⟩ => ⟨S2048x4x64, .f32⟩
  | .hbm, ⟨28, _⟩ => ⟨S2048x4x64, .f32⟩
  | .hbm, ⟨29, _⟩ => ⟨S16x128x4x64, .f32⟩
  | .hbm, ⟨30, _⟩ => ⟨S1x128x4x64, .f32⟩
  | .hbm, ⟨31, _⟩ => ⟨S_, .f32⟩
  | .hbm, ⟨32, _⟩ => ⟨S1x128x4x64, .f32⟩
  | .hbm, ⟨33, _⟩ => ⟨S15x128x4x64, .f32⟩
  | .hbm, ⟨34, _⟩ => ⟨S16x128x4x64, .f32⟩
  | .hbm, ⟨35, _⟩ => ⟨S_, .f32⟩
  | .hbm, ⟨36, _⟩ => ⟨S1x128x4x64, .f32⟩
  | .hbm, ⟨37, _⟩ => ⟨S16x256x4x64, .f32⟩
  | .hbm, ⟨38, _⟩ => ⟨S2048x4x64, .f32⟩
  | .hbm, ⟨39, _⟩ => ⟨S16x128x4x64, .f32⟩
  | .hbm, ⟨40, _⟩ => ⟨S1x128x4x64, .f32⟩
  | .hbm, ⟨41, _⟩ => ⟨S_, .f32⟩
  | .hbm, ⟨42, _⟩ => ⟨S1x128x4x64, .f32⟩
  | .hbm, ⟨43, _⟩ => ⟨S15x128x4x64, .f32⟩
  | .hbm, ⟨44, _⟩ => ⟨S16x128x4x64, .f32⟩
  | .hbm, ⟨45, _⟩ => ⟨S_, .f32⟩
  | .hbm, ⟨46, _⟩ => ⟨S1x128x4x64, .f32⟩
  | .hbm, ⟨47, _⟩ => ⟨S16x256x4x64, .f32⟩
  | .hbm, ⟨48, _⟩ => ⟨S2048x4x64, .f32⟩
  | .hbm, ⟨49, _⟩ => ⟨S16x128x4x64, .f32⟩
  | .hbm, ⟨50, _⟩ => ⟨S2048x4x64, .f32⟩
  | .hbm, ⟨51, _⟩ => ⟨S16x128x4x64, .f32⟩
  | .hbm, ⟨52, _⟩ => ⟨S16x256x4x64, .f32⟩
  | .hbm, ⟨53, _⟩ => ⟨S2048x4x64, .f32⟩
  | .hbm, ⟨54, _⟩ => ⟨S16x128x4x64, .f32⟩
  | .hbm, ⟨55, _⟩ => ⟨S2048x4x64, .f32⟩
  | .hbm, ⟨56, _⟩ => ⟨S16x128x4x64, .f32⟩
  | .hbm, ⟨57, _⟩ => ⟨S16x256x4x64, .f32⟩
  | .hbm, ⟨58, _⟩ => ⟨S16x128x4x64, .f32⟩
  | .hbm, ⟨59, _⟩ => ⟨S16x128x4x64, .f32⟩
  | .hbm, ⟨60, _⟩ => ⟨S1x128x4x64, .f32⟩
  | .hbm, ⟨61, _⟩ => ⟨S15x128x4x64, .f32⟩
  | .hbm, ⟨62, _⟩ => ⟨S_, .f32⟩
  | .hbm, ⟨63, _⟩ => ⟨S16x128x4x64, .f32⟩
  | .hbm, ⟨64, _⟩ => ⟨S16x128x4x64, .f32⟩
  | .hbm, ⟨65, _⟩ => ⟨S2048x4x64, .f32⟩
  | .hbm, ⟨66, _⟩ => ⟨S2048x256, .f32⟩
  | .hbm, ⟨67, _⟩ => ⟨S16x128x4x64, .f32⟩
  | .hbm, ⟨68, _⟩ => ⟨S16x128x4x64, .f32⟩
  | .hbm, ⟨69, _⟩ => ⟨S1x128x4x64, .f32⟩
  | .hbm, ⟨70, _⟩ => ⟨S15x128x4x64, .f32⟩
  | .hbm, ⟨71, _⟩ => ⟨S_, .f32⟩
  | .hbm, ⟨72, _⟩ => ⟨S16x128x4x64, .f32⟩
  | .hbm, ⟨73, _⟩ => ⟨S16x128x4x64, .f32⟩
  | .hbm, ⟨74, _⟩ => ⟨S2048x4x64, .f32⟩
  | .hbm, ⟨75, _⟩ => ⟨S2048x4x64, .f32⟩
  | .hbm, ⟨76, _⟩ => ⟨S_, .f32⟩
  | .hbm, ⟨77, _⟩ => ⟨S64, .f32⟩
  | .hbm, ⟨78, _⟩ => ⟨S1x1x64, .f32⟩
  | .hbm, ⟨79, _⟩ => ⟨S2048x4x64, .f32⟩
  | .hbm, ⟨80, _⟩ => ⟨S2048x4x64, .f32⟩
  | .hbm, ⟨81, _⟩ => ⟨S_, .f32⟩
  | .hbm, ⟨82, _⟩ => ⟨S64, .f32⟩
  | .hbm, ⟨83, _⟩ => ⟨S2048x4x64, .f32⟩
  | .hbm, ⟨84, _⟩ => ⟨S_, .f32⟩
  | .hbm, ⟨85, _⟩ => ⟨S2048x4, .f32⟩
  | .hbm, ⟨86, _⟩ => ⟨S2048x4x1, .f32⟩
  | .hbm, ⟨87, _⟩ => ⟨S2048x4x64, .f32⟩
  | .hbm, ⟨88, _⟩ => ⟨S2048x4x64, .f32⟩
  | .hbm, ⟨89, _⟩ => ⟨S2048x4x1, .f32⟩
  | .hbm, ⟨90, _⟩ => ⟨S_, .f32⟩
  | .hbm, ⟨91, _⟩ => ⟨S2048x4x1, .f32⟩
  | .hbm, ⟨92, _⟩ => ⟨S2048x4x1, .f32⟩
  | .hbm, ⟨93, _⟩ => ⟨S_, .f32⟩
  | .hbm, ⟨94, _⟩ => ⟨S2048x4, .f32⟩
  | .hbm, ⟨95, _⟩ => ⟨S2048x4x64, .f32⟩
  | .hbm, ⟨96, _⟩ => ⟨S2048x4x64, .f32⟩
  | .hbm, ⟨97, _⟩ => ⟨S2048x4x64, .f32⟩
  | .hbm, ⟨98, _⟩ => ⟨S2048x4x64, .f32⟩
  | .hbm, ⟨99, _⟩ => ⟨S2048x4x64, .f32⟩
  | .hbm, ⟨100, _⟩ => ⟨S2048x256, .f32⟩
  | .hbm, ⟨101, _⟩ => ⟨S2048x4x64, .f32⟩
  | .hbm, ⟨102, _⟩ => ⟨S4x2048x64, .f32⟩
  | .hbm, ⟨103, _⟩ => ⟨S4x2048x64, .bf16⟩
  | .hbm, ⟨104, _⟩ => ⟨S2048x4x64, .f32⟩
  | .hbm, ⟨105, _⟩ => ⟨S4x2048x64, .f32⟩
  | .hbm, ⟨106, _⟩ => ⟨S4x2048x64, .bf16⟩
  | .hbm, ⟨107, _⟩ => ⟨S1x64, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .hbm, ⟨4, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixnormFwd.lean ====
abbrev S2048x1024 : Shape := ⟨2, ![2048, 1024]⟩
abbrev S2048x512 : Shape := ⟨2, ![2048, 512]⟩
abbrev S2048 : Shape := ⟨1, ![2048]⟩
abbrev S1x2048 : Shape := ⟨2, ![1, 2048]⟩
abbrev S2048x2048 : Shape := ⟨2, ![2048, 2048]⟩
abbrev S8x128 : Shape := ⟨2, ![8, 128]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S1x2048, .f32⟩
  | .hbm, ⟨5, _⟩ => ⟨S2048x2048, .bf16⟩
  | .hbm, ⟨6, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixnormFwdRefIdeal.lean ====
abbrev S2048x1024 : Shape := ⟨2, ![2048, 1024]⟩
abbrev S2048x512 : Shape := ⟨2, ![2048, 512]⟩
abbrev S2048 : Shape := ⟨1, ![2048]⟩
abbrev S1024 : Shape := ⟨1, ![1024]⟩
abbrev S_ : Shape := ⟨0, ![]⟩
abbrev S2048x1 : Shape := ⟨2, ![2048, 1]⟩
abbrev S1x1024 : Shape := ⟨2, ![1, 1024]⟩
abbrev S512 : Shape := ⟨1, ![512]⟩
abbrev S1x512 : Shape := ⟨2, ![1, 512]⟩
abbrev S2048x2048 : Shape := ⟨2, ![2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S512, .f32⟩
  | .hbm, ⟨22, _⟩ => ⟨S2048x512, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S512, .f32⟩
  | .hbm, ⟨39, _⟩ => ⟨S2048x512, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x512, .f32⟩
  | .hbm, ⟨51, _⟩ => ⟨S2048x512, .f32⟩
  | .hbm, ⟨52, _⟩ => ⟨S1x512, .f32⟩
  | .hbm, ⟨53, _⟩ => ⟨S2048x512, .f32⟩
  | .hbm, ⟨54, _⟩ => ⟨S2048x512, .f32⟩
  | .hbm, ⟨55, _⟩ => ⟨S2048x2048, .f32⟩
  | .hbm, ⟨56, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.DwDownV.lean ====
module

public import proofs.«01_k».proof.Proof.Gen.DwDownIdeal.Frame
public import proofs.«01_k».proof.Proof.Gen.DwDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwDownIdeal.Grad

open Cert.DwDownIdeal Cert.DwDownIdeal.Gen

variable (m : (ℓ : Loc nD τ sig) → Buf (Elt Ideal) ℓ)

/-- the gradient the reference computes, over the kernel's argument arrays -/
abbrev REF (x0 : FVec Ideal S2048x8192 .f32) (x1 : FVec Ideal S2048x2048 .f32) : FVec Ideal S4x2048x2048 .bf16 :=
  Cert.DwDownRefIdeal.Read.val_main_v7 (F := Ideal) x0 x1

theorem idx : ∀ t : Fin cfg0.N, win0_0.index t = ![0, t.val] ∧ win0_1.index t = ![0, 0]
    ∧ win0_2.index t = ![t.val / 4, t.val % 4, 0] :=
  (by decide +kernel : ∀ t : Fin grid0.N, _)

/-- what a point stores is the reference's gradient at the place it stores it -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  unfold REF
  rw [Cert.DwDownRefIdeal.Read.val_main_v7_apply, Cert.DwDownRefIdeal.Read.val_main_v6_apply, Cert.DwDownRefIdeal.Read.val_main_v5_apply, Cert.DwDownRefIdeal.Read.val_main_v4_apply]
  pointwise [k0_pay1]
  refine Finset.sum_congr rfl fun x _ => ?_
  refine (mul_comm (G := EReal) _ _).trans ?_
  simp only [Cert.DwDownRefIdeal.Read.val_main_v2_apply, Cert.DwDownRefIdeal.Read.val_main_v1_apply,
    Cert.DwDownRefIdeal.Read.val_main_call0_v0_apply, Cert.DwDownRefIdeal.Read.val_main_call0_cst_apply]
  blk_point [iblk, V, idx t]
  refine congrArg₂ (fun a b : EReal => a * b) rfl ?_
  entry_read
  pointwise
  blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DwDownIdeal.Grad

end
-- ==== Proof.DwDownA.lean ====
module

public import proofs.«01_k».proof.Defs
public import proofs.«01_k».proof.Proof.DwDownV
public import proofs.«01_k».proof.Proof.Gen.DwDownRefIdeal.Run

@[expose] public section

set_option maxRecDepth 16384

noncomputable section

open Idealize.ShloMosaic Idealize.ShloMosaic.TcCoe Idealize.SL.Sem

namespace Cert.DwDownIdeal.Grad

open Cert.DwDownIdeal

theorem algebraic : Cert.algebraic_DwDownIdeal_DwDownRefIdeal (hDwDownIdeal := Cert.DwDownIdeal.Gen.facts)
    (hDwDownRefIdeal := Cert.DwDownRefIdeal.Gen.facts) := by
  pair_intro
  · run_from Cert.DwDownIdeal.Gen.run_main m g
  · run_from Cert.DwDownRefIdeal.Value.run m' g'
    rw [Cert.DwDownIdeal.Grad.final m c]
    rfl

theorem frame_ref : Cert.quiescent_DwDownRefIdeal (hDwDownRefIdeal := Cert.DwDownRefIdeal.Gen.facts) := by
  intro m ρ _
  exact (θ_run Cert.DwDownRefIdeal.defs _ _).mono (fun r h => ⟨fun c => (h c).2, sem_eq_zero_of_no_sems (by decide) r.2⟩)
    (Cert.DwDownRefIdeal.Value.run (F := Ideal) m ρ)

end Cert.DwDownIdeal.Grad

end
-- ==== Proof.DupV.lean ====
module

public import proofs.«01_k».proof.Proof.Gen.DupIdeal.Frame
public import proofs.«01_k».proof.Proof.Gen.DupRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DupIdeal.Grad

open Cert.DupIdeal Cert.DupIdeal.Gen

variable (m : (ℓ : Loc nD τ sig) → Buf (Elt Ideal) ℓ)

/-- the gradient the reference computes, over the kernel's argument arrays -/
abbrev REF (x0 : FVec Ideal S2048x8192 .f32) (x1 : FVec Ideal S8192x2048 .f32) (x2 : FVec Ideal S2048x2048 .f32) : FVec Ideal S2048x8192 .bf16 :=
  Cert.DupRefIdeal.Read.val_main_v12 (F := Ideal) x0 x1 x2

theorem idx : ∀ t : Fin cfg0.N, win0_0.index t = ![t.val / 8, 0] ∧ win0_1.index t = ![t.val % 8 / 2, t.val % 8 % 2, 0]
    ∧ win0_2.index t = ![t.val / 8, t.val % 8] ∧ win0_3.index t = ![t.val / 8, t.val % 8] :=
  (by decide +kernel : ∀ t : Fin grid0.N, _)

/-- what a point stores is the reference's gradient at the place it stores it -/
theorem point (c : Dev nD) (t : Fin cfg0.N) (y) : k0_pay1 (iblk m c 1 t) (iblk m c 0 t) (iblk m c 2 t) y
    = REF (m ((c : Thread nD τ).loc main_arg0)) (m ((c : Thread nD τ).loc main_arg1)) (m ((c : Thread nD τ).loc main_arg2)) (((cfg0.win 3).blk t).view.emb y) := by
  unfold REF
  rw [Cert.DupRefIdeal.Read.val_main_v12_apply, Cert.DupRefIdeal.Read.val_main_v11_apply, Cert.DupRefIdeal.Read.val_main_v9_apply, Cert.DupRefIdeal.Read.val_main_v8_apply,
    Cert.DupRefIdeal.Read.val_main_v6_apply, Cert.DupRefIdeal.Read.val_main_v5_apply, Cert.DupRefIdeal.Read.val_main_v2_apply, Cert.DupRefIdeal.Read.val_main_v1_apply,
    Cert.DupRefIdeal.Read.val_main_v0_apply, Cert.DupRefIdeal.Read.val_main_v10_apply]
  simp only [Cert.DupRefIdeal.Read.val_main_call0_v0_apply, Cert.DupRefIdeal.Read.val_main_call0_cst_apply, Cert.DupRefIdeal.Read.val_main_cst_apply,
    Cert.DupRefIdeal.Read.val_main_cst_1_apply, Cert.DupRefIdeal.Read.val_main_cst_2_apply]
  pointwise [k0_pay1]
  have e : iblk m c 2 t y = m ((c : Thread nD τ).loc main_arg0) (((cfg0.win 3).blk t).view.emb y) := by
    blk_point [iblk, V, idx t]
  rw [e]
  split_ifs with h
  · refine congrArg₂ (fun a b : EReal => a * b) ?_ rfl
    blk_point [iblk, V, idx t]
  · have h0 : max (α := EReal) (m ((c : Thread nD τ).loc main_arg0) (((cfg0.win 3).blk t).view.emb y)) 0 = 0 :=
      max_eq_right (not_lt.mp h)
    refine (congrArg (fun z : EReal => _ * (_ * z)) h0).trans ?_
    rw [mul_zero, mul_zero]

/-- the result array after the run -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DupIdeal.Grad

end
-- ==== Proof.DupA.lean ====
module

public import proofs.«01_k».proof.Defs
public import proofs.«01_k».proof.Proof.DupV
public import proofs.«01_k».proof.Proof.Gen.DupRefIdeal.Run

@[expose] public section

set_option maxRecDepth 16384

noncomputable section

open Idealize.ShloMosaic Idealize.ShloMosaic.TcCoe Idealize.SL.Sem

namespace Cert.DupIdeal.Grad

open Cert.DupIdeal

theorem algebraic : Cert.algebraic_DupIdeal_DupRefIdeal (hDupIdeal := Cert.DupIdeal.Gen.facts)
    (hDupRefIdeal := Cert.DupRefIdeal.Gen.facts) := by
  pair_intro
  · run_from Cert.DupIdeal.Gen.run_main m g
  · run_from Cert.DupRefIdeal.Value.run m' g'
    rw [Cert.DupIdeal.Grad.final m c]
    rfl

theorem frame_ref : Cert.quiescent_DupRefIdeal (hDupRefIdeal := Cert.DupRefIdeal.Gen.facts) := by
  intro m ρ _
  exact (θ_run Cert.DupRefIdeal.defs _ _).mono (fun r h => ⟨fun c => (h c).2, sem_eq_zero_of_no_sems (by decide) r.2⟩)
    (Cert.DupRefIdeal.Value.run (F := Ideal) m ρ)

end Cert.DupIdeal.Grad

end
-- ==== Proof.DwUpV.lean ====
module

public import proofs.«01_k».proof.Proof.Gen.DwUpIdeal.Frame
public import proofs.«01_k».proof.Proof.Gen.DwUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwUpIdeal.Grad

open Cert.DwUpIdeal Cert.DwUpIdeal.Gen

variable (m : (ℓ : Loc nD τ sig) → Buf (Elt Ideal) ℓ)

/-- the gradient the reference computes, over the kernel's argument arrays -/
abbrev REF (x0 : FVec Ideal S2048x2048 .f32) (x1 : FVec Ideal S2048x8192 .f32) : FVec Ideal S4x2048x2048 .bf16 :=
  Cert.DwUpRefIdeal.Read.val_main_v6 (F := Ideal) x0 x1

theorem idx : ∀ t : Fin cfg0.N, win0_0.index t = ![0, t.val / 8] ∧ win0_1.index t = ![0, t.val % 8]
    ∧ win0_2.index t = ![t.val % 8 / 2, t.val / 8, t.val % 8 % 2] :=
  (by decide +kernel : ∀ t : Fin grid0.N, _)

/-- what a point stores is the reference's gradient at the place it stores it -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  unfold REF
  rw [Cert.DwUpRefIdeal.Read.val_main_v6_apply, Cert.DwUpRefIdeal.Read.val_main_v5_apply, Cert.DwUpRefIdeal.Read.val_main_v4_apply, Cert.DwUpRefIdeal.Read.val_main_v3_apply, Cert.DwUpRefIdeal.Read.val_main_v2_apply]
  pointwise [k0_pay1]
  refine Finset.sum_congr rfl fun x _ => ?_
  refine (mul_comm (G := EReal) _ _).trans ?_
  refine congrArg₂ (fun a b : EReal => a * b) ?_ ?_
  · blk_point [iblk, V, idx t]
  · blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DwUpIdeal.Grad

end
-- ==== Proof.DwUpA.lean ====
module

public import proofs.«01_k».proof.Defs
public import proofs.«01_k».proof.Proof.DwUpV
public import proofs.«01_k».proof.Proof.Gen.DwUpRefIdeal.Run

@[expose] public section

set_option maxRecDepth 16384

noncomputable section

open Idealize.ShloMosaic Idealize.ShloMosaic.TcCoe Idealize.SL.Sem

namespace Cert.DwUpIdeal.Grad

open Cert.DwUpIdeal

theorem algebraic : Cert.algebraic_DwUpIdeal_DwUpRefIdeal (hDwUpIdeal := Cert.DwUpIdeal.Gen.facts)
    (hDwUpRefIdeal := Cert.DwUpRefIdeal.Gen.facts) := by
  pair_intro
  · run_from Cert.DwUpIdeal.Gen.run_main m g
  · run_from Cert.DwUpRefIdeal.Value.run m' g'
    rw [Cert.DwUpIdeal.Grad.final m c]
    rfl

theorem frame_ref : Cert.quiescent_DwUpRefIdeal (hDwUpRefIdeal := Cert.DwUpRefIdeal.Gen.facts) := by
  intro m ρ _
  exact (θ_run Cert.DwUpRefIdeal.defs _ _).mono (fun r h => ⟨fun c => (h c).2, sem_eq_zero_of_no_sems (by decide) r.2⟩)
    (Cert.DwUpRefIdeal.Value.run (F := Ideal) m ρ)

end Cert.DwUpIdeal.Grad

end
-- ==== Proof.Dh2V.lean ====
module

public import proofs.«01_k».proof.Proof.Gen.Dh2Ideal.Frame
public import proofs.«01_k».proof.Proof.Gen.Dh2RefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dh2Ideal.Grad

open Cert.Dh2Ideal Cert.Dh2Ideal.Gen

variable (m : (ℓ : Loc nD τ sig) → Buf (Elt Ideal) ℓ)

/-- the gradient the reference computes, over the kernel's argument arrays -/
abbrev REF (x0 : FVec Ideal S2048x8192 .f32) (x1 : FVec Ideal S2048x8192 .f32) : FVec Ideal S2048x2048 .f32 :=
  Cert.Dh2RefIdeal.Read.val_main_v2 (F := Ideal) x0 x1

theorem idx : ∀ t : Fin cfg0.N, win0_0.index t = ![t.val / 8, t.val % 4] ∧ win0_1.index t = ![t.val % 4, t.val % 8 / 4, 0]
    ∧ win0_2.index t = ![t.val / 8, t.val % 8 / 4] :=
  (by decide +kernel : ∀ t : Fin grid0.N, _)

/-- the share of the product a point adds -/
def part (c : Dev nD) (t : Fin cfg0.N) (j : S1024x1024.Idx) : EReal :=
  ∑ k : Fin 2048, (show EReal from iblk m c 0 t (ix2 (j 0) k)) * (show EReal from iblk m c 1 t (ix3 0 (j 1) k))

/-- the first point of a run starts the accumulator at its share -/
theorem acc_first (c : Dev nD) (t : Fin cfg0.N) (h : t.val % 4 = 0) (j) :
    (outsAt0 m c t.val t.isLt).2.2 j = part m c t j := by
  rw [outsAt0_A m c t h (by omega) (by omega)]; frame_out
  pointwise [k0_pay1, part]

/-- the points in between add theirs -/
theorem acc_step (c : Dev nD) (t : Fin cfg0.N) (h : 1 ≤ t.val % 4 ∧ t.val % 4 ≤ 2) (j) :
    (outsAt0 m c t.val t.isLt).2.2 j
      = (outsAt0 m c (t.val - 1) (lt_of_le_of_lt (Nat.sub_le _ _) t.isLt)).2.2 j + part m c t j := by
  rw [outsAt0_B m c t (by omega) h (by omega)]; frame_out
  pointwise [k0_pay2, part]
  exact congrArg (fun f : S1024x1024.Idx → EReal => f j + _) ((Memref.isWhole_whole cc0_scratch0).read_unread _)

/-- the last one stores the accumulator and its own share -/
theorem out_last (c : Dev nD) (t : Fin cfg0.N) (h : t.val % 4 = 3) (j) :
    (outsAt0 m c t.val t.isLt).1 j
      = (outsAt0 m c (t.val - 1) (lt_of_le_of_lt (Nat.sub_le _ _) t.isLt)).2.2 j + part m c t j := by
  rw [outsAt0_C m c t (by omega) (by omega) h]; frame_out
  pointwise [k0_pay3, part]
  exact congrArg (fun f : S1024x1024.Idx → EReal => f j + _) ((Memref.isWhole_whole cc0_scratch0).read_unread _)

/-- the four shares of a run, in the order they are added -/
theorem run (c : Dev nD) (q : ℕ) (h0 : 4 * q < cfg0.N) (h1 : 4 * q + 1 < cfg0.N) (h2 : 4 * q + 2 < cfg0.N)
    (h3 : 4 * q + 3 < cfg0.N) (j) :
    (outsAt0 m c (4 * q + 3) h3).1 j
      = part m c ⟨4 * q, h0⟩ j + part m c ⟨4 * q + 1, h1⟩ j + part m c ⟨4 * q + 2, h2⟩ j
        + part m c ⟨4 * q + 3, h3⟩ j := by
  have e3 := out_last m c ⟨4 * q + 3, h3⟩ (by dsimp only; omega) j
  have e2 := acc_step m c ⟨4 * q + 2, h2⟩ (by dsimp only; omega) j
  have e1 := acc_step m c ⟨4 * q + 1, h1⟩ (by dsimp only; omega) j
  have e0 := acc_first m c ⟨4 * q, h0⟩ (by dsimp only; omega) j
  exact e3.trans (congrArg (fun z : EReal => z + _) (e2.trans (congrArg (fun z : EReal => z + _)
    (e1.trans (congrArg (fun z : EReal => z + _) e0)))))

/-- the result array after the run -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2]
  obtain ⟨q, hq⟩ : ∃ q, t.val = 4 * q + 3 := ⟨t.val / 4, by omega⟩
  obtain ⟨n, hn⟩ := t
  dsimp only at hq ht
  subst hq
  have hn' : 4 * q + 3 < 16 := lt_of_lt_of_eq hn N_0
  have h0 : 4 * q < cfg0.N := lt_of_lt_of_eq (by omega) N_0.symm
  have h1 : 4 * q + 1 < cfg0.N := lt_of_lt_of_eq (by omega) N_0.symm
  have h2 : 4 * q + 2 < cfg0.N := lt_of_lt_of_eq (by omega) N_0.symm
  refine (run m c q h0 h1 h2 hn y).trans ?_
  unfold REF
  rw [Cert.Dh2RefIdeal.Read.val_main_v2_apply, Fin.sum_univ_tiles 4 2048 rfl, Fin.sum_univ_four]
  refine congrArg₂ (fun a b : EReal => a + b) (congrArg₂ (fun a b : EReal => a + b)
    (congrArg₂ (fun a b : EReal => a + b) ?_ ?_) ?_) ?_
  · unfold part
    refine Finset.sum_congr rfl fun x _ => ?_
    refine congrArg₂ (fun a b : EReal => a * b) ?_ ?_
    · blk_point [iblk, V, idx ⟨4 * q, h0⟩, idx ⟨4 * q + 3, hn⟩]
    · blk_point [iblk, V, idx ⟨4 * q, h0⟩, idx ⟨4 * q + 3, hn⟩]
  · unfold part
    refine Finset.sum_congr rfl fun x _ => ?_
    refine congrArg₂ (fun a b : EReal => a * b) ?_ ?_
    · blk_point [iblk, V, idx ⟨4 * q + 1, h1⟩, idx ⟨4 * q + 3, hn⟩]
    · blk_point [iblk, V, idx ⟨4 * q + 1, h1⟩, idx ⟨4 * q + 3, hn⟩]
  · unfold part
    refine Finset.sum_congr rfl fun x _ => ?_
    refine congrArg₂ (fun a b : EReal => a * b) ?_ ?_
    · blk_point [iblk, V, idx ⟨4 * q + 2, h2⟩, idx ⟨4 * q + 3, hn⟩]
    · blk_point [iblk, V, idx ⟨4 * q + 2, h2⟩, idx ⟨4 * q + 3, hn⟩]
  · unfold part
    refine Finset.sum_congr rfl fun x _ => ?_
    refine congrArg₂ (fun a b : EReal => a * b) ?_ ?_
    · blk_point [iblk, V, idx ⟨4 * q + 3, hn⟩]
    · blk_point [iblk, V, idx ⟨4 * q + 3, hn⟩]

end Cert.Dh2Ideal.Grad

end
-- ==== Proof.Dh2A.lean ====
module

public import proofs.«01_k».proof.Defs
public import proofs.«01_k».proof.Proof.Dh2V
public import proofs.«01_k».proof.Proof.Gen.Dh2RefIdeal.Run

@[expose] public section

set_option maxRecDepth 16384

noncomputable section

open Idealize.ShloMosaic Idealize.ShloMosaic.TcCoe Idealize.SL.Sem

namespace Cert.Dh2Ideal.Grad

open Cert.Dh2Ideal

theorem algebraic : Cert.algebraic_Dh2Ideal_Dh2RefIdeal (hDh2Ideal := Cert.Dh2Ideal.Gen.facts)
    (hDh2RefIdeal := Cert.Dh2RefIdeal.Gen.facts) := by
  pair_intro
  · run_from Cert.Dh2Ideal.Gen.run_main m g
  · run_from Cert.Dh2RefIdeal.Value.run m' g'
    rw [Cert.Dh2Ideal.Grad.final m c]
    rfl

theorem frame_ref : Cert.quiescent_Dh2RefIdeal (hDh2RefIdeal := Cert.Dh2RefIdeal.Gen.facts) := by
  intro m ρ _
  exact (θ_run Cert.Dh2RefIdeal.defs _ _).mono (fun r h => ⟨fun c => (h c).2, sem_eq_zero_of_no_sems (by decide) r.2⟩)
    (Cert.Dh2RefIdeal.Value.run (F := Ideal) m ρ)

end Cert.Dh2Ideal.Grad

end
-- ==== Proof.DwOutV.lean ====
module

public import proofs.«01_k».proof.Proof.Gen.DwOutIdeal.Frame
public import proofs.«01_k».proof.Proof.Gen.DwOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Grad

open Cert.DwOutIdeal Cert.DwOutIdeal.Gen

variable (m : (ℓ : Loc nD τ sig) → Buf (Elt Ideal) ℓ)

/-- the gradient the reference computes, over the kernel's argument arrays -/
abbrev REF (x0 : FVec Ideal S2048x2048 .f32) (x1 : FVec Ideal S2048x2048 .f32) : FVec Ideal S4x512x2048 .bf16 :=
  Cert.DwOutRefIdeal.Read.val_main_v5 (F := Ideal) x0 x1

theorem idx : ∀ t : Fin cfg0.N, win0_0.index t = ![0, t.val] ∧ win0_1.index t = ![0, 0]
    ∧ win0_2.index t = ![t.val, 0, 0] :=
  (by decide +kernel : ∀ t : Fin grid0.N, _)

/-- what a point stores is the reference's gradient at the place it stores it -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  unfold REF
  rw [Cert.DwOutRefIdeal.Read.val_main_v5_apply, Cert.DwOutRefIdeal.Read.val_main_v4_apply, Cert.DwOutRefIdeal.Read.val_main_v3_apply, Cert.DwOutRefIdeal.Read.val_main_v2_apply]
  pointwise [k0_pay1]
  refine Finset.sum_congr rfl fun x _ => ?_
  refine (mul_comm (G := EReal) _ _).trans ?_
  refine congrArg₂ (fun a b : EReal => a * b) ?_ ?_
  · blk_point [iblk, V, idx t]
  · blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DwOutIdeal.Grad

end
-- ==== Proof.DwOutA.lean ====
module

public import proofs.«01_k».proof.Defs
public import proofs.«01_k».proof.Proof.DwOutV
public import proofs.«01_k».proof.Proof.Gen.DwOutRefIdeal.Run

@[expose] public section

set_option maxRecDepth 16384

noncomputable section

open Idealize.ShloMosaic Idealize.ShloMosaic.TcCoe Idealize.SL.Sem

namespace Cert.DwOutIdeal.Grad

open Cert.DwOutIdeal

theorem algebraic : Cert.algebraic_DwOutIdeal_DwOutRefIdeal (hDwOutIdeal := Cert.DwOutIdeal.Gen.facts)
    (hDwOutRefIdeal := Cert.DwOutRefIdeal.Gen.facts) := by
  pair_intro
  · run_from Cert.DwOutIdeal.Gen.run_main m g
  · run_from Cert.DwOutRefIdeal.Value.run m' g'
    rw [Cert.DwOutIdeal.Grad.final m c]
    rfl

theorem frame_ref : Cert.quiescent_DwOutRefIdeal (hDwOutRefIdeal := Cert.DwOutRefIdeal.Gen.facts) := by
  intro m ρ _
  exact (θ_run Cert.DwOutRefIdeal.defs _ _).mono (fun r h => ⟨fun c => (h c).2, sem_eq_zero_of_no_sems (by decide) r.2⟩)
    (Cert.DwOutRefIdeal.Value.run (F := Ideal) m ρ)

end Cert.DwOutIdeal.Grad

end
-- ==== Proof.DmixV.lean ====
module

public import proofs.«01_k».proof.Proof.Gen.DmixIdeal.Frame
public import proofs.«01_k».proof.Proof.Gen.DmixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DmixIdeal.Grad

open Cert.DmixIdeal Cert.DmixIdeal.Gen

variable (m : (ℓ : Loc nD τ sig) → Buf (Elt Ideal) ℓ)

/-- the gradient the reference computes, over the kernel's argument arrays -/
abbrev REF (x0 : FVec Ideal S2048x2048 .f32) (x1 : FVec Ideal S2048x2048 .f32) : FVec Ideal S2048x2048 .f32 :=
  Cert.DmixRefIdeal.Read.val_main_v2 (F := Ideal) x0 x1

theorem idx : ∀ t : Fin cfg0.N, win0_0.index t = ![t.val, 0] ∧ win0_1.index t = ![0, 0, 0]
    ∧ win0_2.index t = ![t.val, 0] :=
  (by decide +kernel : ∀ t : Fin grid0.N, _)

/-- what a point stores is the reference's gradient at the place it stores it -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  unfold REF
  rw [Cert.DmixRefIdeal.Read.val_main_v2_apply]
  pointwise [k0_pay1]
  blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DmixIdeal.Grad

end
-- ==== Proof.DmixA.lean ====
module

public import proofs.«01_k».proof.Defs
public import proofs.«01_k».proof.Proof.DmixV
public import proofs.«01_k».proof.Proof.Gen.DmixRefIdeal.Run

@[expose] public section

set_option maxRecDepth 16384

noncomputable section

open Idealize.ShloMosaic Idealize.ShloMosaic.TcCoe Idealize.SL.Sem

namespace Cert.DmixIdeal.Grad

open Cert.DmixIdeal

theorem algebraic : Cert.algebraic_DmixIdeal_DmixRefIdeal (hDmixIdeal := Cert.DmixIdeal.Gen.facts)
    (hDmixRefIdeal := Cert.DmixRefIdeal.Gen.facts) := by
  pair_intro
  · run_from Cert.DmixIdeal.Gen.run_main m g
  · run_from Cert.DmixRefIdeal.Value.run m' g'
    rw [Cert.DmixIdeal.Grad.final m c]
    rfl

theorem frame_ref : Cert.quiescent_DmixRefIdeal (hDmixRefIdeal := Cert.DmixRefIdeal.Gen.facts) := by
  intro m ρ _
  exact (θ_run Cert.DmixRefIdeal.defs _ _).mono (fun r h => ⟨fun c => (h c).2, sem_eq_zero_of_no_sems (by decide) r.2⟩)
    (Cert.DmixRefIdeal.Value.run (F := Ideal) m ρ)

end Cert.DmixIdeal.Grad

end
-- ==== Proof.DwInV.lean ====
module

public import proofs.«01_k».proof.Proof.Gen.DwInIdeal.Frame
public import proofs.«01_k».proof.Proof.Gen.DwInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Grad

open Cert.DwInIdeal Cert.DwInIdeal.Gen

variable (m : (ℓ : Loc nD τ sig) → Buf (Elt Ideal) ℓ)

/-- the gradient the reference computes, over the kernel's argument arrays -/
abbrev REF (x0 : FVec Ideal S2048x2048 .f32) (x1 : FVec Ideal S2048x3584 .f32) : FVec Ideal S4x2048x896 .bf16 :=
  Cert.DwInRefIdeal.Read.val_main_v6 (F := Ideal) x0 x1

theorem idx : ∀ t : Fin cfg0.N, win0_0.index t = ![0, t.val / 4] ∧ win0_1.index t = ![0, t.val % 4]
    ∧ win0_2.index t = ![t.val % 4, t.val / 4, 0] :=
  (by decide +kernel : ∀ t : Fin grid0.N, _)

/-- what a point stores is the reference's gradient at the place it stores it -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  unfold REF
  rw [Cert.DwInRefIdeal.Read.val_main_v6_apply, Cert.DwInRefIdeal.Read.val_main_v5_apply, Cert.DwInRefIdeal.Read.val_main_v4_apply, Cert.DwInRefIdeal.Read.val_main_v3_apply, Cert.DwInRefIdeal.Read.val_main_v2_apply]
  pointwise [k0_pay1]
  refine Finset.sum_congr rfl fun x _ => ?_
  refine (mul_comm (G := EReal) _ _).trans ?_
  refine congrArg₂ (fun a b : EReal => a * b) ?_ ?_
  · blk_point [iblk, V, idx t]
  · blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DwInIdeal.Grad

end
-- ==== Proof.DwInA.lean ====
module

public import proofs.«01_k».proof.Defs
public import proofs.«01_k».proof.Proof.DwInV
public import proofs.«01_k».proof.Proof.Gen.DwInRefIdeal.Run

@[expose] public section

set_option maxRecDepth 16384

noncomputable section

open Idealize.ShloMosaic Idealize.ShloMosaic.TcCoe Idealize.SL.Sem

namespace Cert.DwInIdeal.Grad

open Cert.DwInIdeal

theorem algebraic : Cert.algebraic_DwInIdeal_DwInRefIdeal (hDwInIdeal := Cert.DwInIdeal.Gen.facts)
    (hDwInRefIdeal := Cert.DwInRefIdeal.Gen.facts) := by
  pair_intro
  · run_from Cert.DwInIdeal.Gen.run_main m g
  · run_from Cert.DwInRefIdeal.Value.run m' g'
    rw [Cert.DwInIdeal.Grad.final m c]
    rfl

theorem frame_ref : Cert.quiescent_DwInRefIdeal (hDwInRefIdeal := Cert.DwInRefIdeal.Gen.facts) := by
  intro m ρ _
  exact (θ_run Cert.DwInRefIdeal.defs _ _).mono (fun r h => ⟨fun c => (h c).2, sem_eq_zero_of_no_sems (by decide) r.2⟩)
    (Cert.DwInRefIdeal.Value.run (F := Ideal) m ρ)

end Cert.DwInIdeal.Grad

end
-- ==== Proof.Dh1V.lean ====
module

public import proofs.«01_k».proof.Proof.Gen.Dh1Ideal.Frame
public import proofs.«01_k».proof.Proof.Gen.Dh1RefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dh1Ideal.Grad

open Cert.Dh1Ideal Cert.Dh1Ideal.Gen

variable (m : (ℓ : Loc nD τ sig) → Buf (Elt Ideal) ℓ)

/-- the gradient the reference computes, over the kernel's argument arrays -/
abbrev REF (x0 : FVec Ideal S2048x3584 .f32) (x1 : FVec Ideal S2048x3584 .f32) : FVec Ideal S2048x2048 .f32 :=
  Cert.Dh1RefIdeal.Read.val_main_v2 (F := Ideal) x0 x1

theorem idx : ∀ t : Fin cfg0.N, win0_0.index t = ![t.val, 0] ∧ win0_1.index t = ![0, 0, 0]
    ∧ win0_2.index t = ![t.val, 0] :=
  (by decide +kernel : ∀ t : Fin grid0.N, _)

/-- what a point stores is the reference's gradient at the place it stores it -/
theorem point (c : Dev nD) (t : Fin cfg0.N) (y) : out0_2 (iblk m c 0 t) (iblk m c 1 t) y
    = REF (m ((c : Thread nD τ).loc main_arg0)) (m ((c : Thread nD τ).loc main_arg1)) (((cfg0.win 2).blk t).view.emb y) := by
  unfold REF
  rw [Cert.Dh1RefIdeal.Read.val_main_v2_apply]
  frame_out
  pointwise [k0_pay1]
  rw [Fin.sum_univ_tiles 4 896 rfl, Fin.sum_univ_four]
  refine congrArg₂ (fun a b : EReal => a + b) (congrArg₂ (fun a b : EReal => a + b)
    (congrArg₂ (fun a b : EReal => a + b) ?_ ?_) ?_) ?_
  · blk_point [iblk, V, idx t]
  · blk_point [iblk, V, idx t]
  · blk_point [iblk, V, idx t]
  · blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Dh1Ideal.Grad

end
-- ==== Proof.Dh1A.lean ====
module

public import proofs.«01_k».proof.Defs
public import proofs.«01_k».proof.Proof.Dh1V
public import proofs.«01_k».proof.Proof.Gen.Dh1RefIdeal.Run

@[expose] public section

set_option maxRecDepth 16384

noncomputable section

open Idealize.ShloMosaic Idealize.ShloMosaic.TcCoe Idealize.SL.Sem

namespace Cert.Dh1Ideal.Grad

open Cert.Dh1Ideal

theorem algebraic : Cert.algebraic_Dh1Ideal_Dh1RefIdeal (hDh1Ideal := Cert.Dh1Ideal.Gen.facts)
    (hDh1RefIdeal := Cert.Dh1RefIdeal.Gen.facts) := by
  pair_intro
  · run_from Cert.Dh1Ideal.Gen.run_main m g
  · run_from Cert.Dh1RefIdeal.Value.run m' g'
    rw [Cert.Dh1Ideal.Grad.final m c]
    rfl

theorem frame_ref : Cert.quiescent_Dh1RefIdeal (hDh1RefIdeal := Cert.Dh1RefIdeal.Gen.facts) := by
  intro m ρ _
  exact (θ_run Cert.Dh1RefIdeal.defs _ _).mono (fun r h => ⟨fun c => (h c).2, sem_eq_zero_of_no_sems (by decide) r.2⟩)
    (Cert.Dh1RefIdeal.Value.run (F := Ideal) m ρ)

end Cert.Dh1Ideal.Grad

end
-- ==== Proof.ProjV.lean ====
module

public import proofs.«01_k».proof.Proof.Gen.ProjIdeal.Frame
public import proofs.«01_k».proof.Proof.Gen.ProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Grad

open Cert.ProjIdeal Cert.ProjIdeal.Gen

variable (m : (ℓ : Loc nD τ sig) → Buf (Elt Ideal) ℓ)

/-- what the reference computes, over the kernel's argument arrays -/
abbrev REF (x0 : FVec Ideal S2048x2048 .f32) (x1 : FVec Ideal S2048x3584 .f32) : FVec Ideal S2048x3584 .f32 :=
  Cert.ProjRefIdeal.Read.val_main_v0 (F := Ideal) x0 x1

theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- what a point stores is the reference's value at the place it stores it -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  unfold REF
  rw [Cert.ProjRefIdeal.Read.val_main_v0_apply]
  pointwise [k0_pay1]
  blk_point [iblk, V, idx t]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjIdeal.Grad

end
-- ==== Proof.ProjA.lean ====
module

public import proofs.«01_k».proof.Defs
public import proofs.«01_k».proof.Proof.ProjV
public import proofs.«01_k».proof.Proof.Gen.ProjRefIdeal.Run

@[expose] public section

set_option maxRecDepth 16384

noncomputable section

open Idealize.ShloMosaic Idealize.ShloMosaic.TcCoe Idealize.SL.Sem

namespace Cert.ProjIdeal.Grad

open Cert.ProjIdeal

theorem algebraic : Cert.algebraic_ProjIdeal_ProjRefIdeal (hProjIdeal := Cert.ProjIdeal.Gen.facts)
    (hProjRefIdeal := Cert.ProjRefIdeal.Gen.facts) := by
  pair_intro
  · run_from Cert.ProjIdeal.Gen.run_main m g
  · run_from Cert.ProjRefIdeal.Value.run m' g'
    rw [Cert.ProjIdeal.Grad.final m c]
    rfl

theorem frame_ref : Cert.quiescent_ProjRefIdeal (hProjRefIdeal := Cert.ProjRefIdeal.Gen.facts) := by
  intro m ρ _
  exact (θ_run Cert.ProjRefIdeal.defs _ _).mono (fun r h => ⟨fun c => (h c).2, sem_eq_zero_of_no_sems (by decide) r.2⟩)
    (Cert.ProjRefIdeal.Value.run (F := Ideal) m ρ)

end Cert.ProjIdeal.Grad

end
-- ==== Proof.OutV.lean ====
module

public import proofs.«01_k».proof.Proof.Gen.OutIdeal.Frame
public import proofs.«01_k».proof.Proof.Gen.OutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Grad

open Cert.OutIdeal Cert.OutIdeal.Gen

variable (m : (ℓ : Loc nD τ sig) → Buf (Elt Ideal) ℓ)

/-- what the reference computes, over the kernel's argument arrays -/
abbrev REFX (x0 : FVec Ideal S2048x2048 .f32) (x1 : FVec Ideal S2048x2048 .f32) (x2 : FVec Ideal S2048x2048 .f32) : FVec Ideal S2048x2048 .f32 :=
  Cert.OutRefIdeal.Read.val_main_v1 (F := Ideal) x0 x1 x2

/-- what the reference computes, over the kernel's argument arrays -/
abbrev REFH (x0 : FVec Ideal S2048x2048 .f32) (x1 : FVec Ideal S2048x2048 .f32) (x2 : FVec Ideal S2048x2048 .f32) (x3 : FVec Ideal S2048 .f32) : FVec Ideal S2048x2048 .bf16 :=
  Cert.OutRefIdeal.Read.val_main_v15 (F := Ideal) x0 x1 x2 x3

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- what a point stores is the reference's value at the place it stores it -/
theorem pointX (c : Dev nD) (t : Fin cfg0.N) (y) : k0_pay1 (iblk m c 1 t) (iblk m c 0 t) (iblk m c 2 t) y
    = REFX (m ((c : Thread nD τ).loc main_arg0)) (m ((c : Thread nD τ).loc main_arg1)) (m ((c : Thread nD τ).loc main_arg2)) (((cfg0.win 4).blk t).view.emb y) := by
  unfold REFX
  rw [Cert.OutRefIdeal.Read.val_main_v1_apply, Cert.OutRefIdeal.Read.val_main_v0_apply]
  pointwise [k0_pay1]
  blk_point [iblk, V, idx t]

/-- the result array after the run -/
theorem finalX (c : Dev nD) : (dats m 0 c).arrAt 4 (cfgs 0).N = REFX (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact pointX m c t y

/-- what a point stores is the reference's value at the place it stores it -/
theorem pointH (c : Dev nD) (t : Fin cfg0.N) (y) : k0_pay2 (iblk m c 1 t) (iblk m c 0 t) (iblk m c 2 t) (iblk m c 3 t) y
    = REFH (m ((c : Thread nD τ).loc main_arg0)) (m ((c : Thread nD τ).loc main_arg1)) (m ((c : Thread nD τ).loc main_arg2)) (m ((c : Thread nD τ).loc main_arg3)) (((cfg0.win 5).blk t).view.emb y) := by
  have core : ∀ j, k0_pay1 (F := Ideal) (iblk m c 1 t) (iblk m c 0 t) (iblk m c 2 t) j
      = Cert.OutRefIdeal.Read.val_main_v1 (F := Ideal) (m ((c : Thread nD τ).loc main_arg0)) (m ((c : Thread nD τ).loc main_arg1))
        (m ((c : Thread nD τ).loc main_arg2)) (((cfg0.win 5).blk t).view.emb j) := by
    intro j
    rw [Cert.OutRefIdeal.Read.val_main_v1_apply, Cert.OutRefIdeal.Read.val_main_v0_apply]
    pointwise [k0_pay1]
    blk_point [iblk, V, idx t]
  have row : ∀ k : Fin 2048, k0_pay1 (F := Ideal) (iblk m c 1 t) (iblk m c 0 t) (iblk m c 2 t) (ix2 (y 0) k)
      = Cert.OutRefIdeal.Read.val_main_v1 (F := Ideal) (m ((c : Thread nD τ).loc main_arg0)) (m ((c : Thread nD τ).loc main_arg1))
        (m ((c : Thread nD τ).loc main_arg2)) (Cert.OutRefIdeal.Read.idx_main_v3 (Cert.OutRefIdeal.Read.idx_main_v4
          (Cert.OutRefIdeal.Read.idx_main_v10 (((cfg0.win 5).blk t).view.emb y))) k) := by
    intro k
    rw [core]
    blk_ext [iblk, V, idx t]
  unfold REFH
  rw [Cert.OutRefIdeal.Read.val_main_v15_apply, Cert.OutRefIdeal.Read.val_main_v14_apply, Cert.OutRefIdeal.Read.val_main_v13_apply, Cert.OutRefIdeal.Read.val_main_v12_apply, Cert.OutRefIdeal.Read.val_main_v11_apply, Cert.OutRefIdeal.Read.val_main_v10_apply, Cert.OutRefIdeal.Read.val_main_v9_apply, Cert.OutRefIdeal.Read.val_main_v8_apply, Cert.OutRefIdeal.Read.val_main_v7_apply, Cert.OutRefIdeal.Read.val_main_v6_apply, Cert.OutRefIdeal.Read.val_main_v5_apply, Cert.OutRefIdeal.Read.val_main_v4_apply, Cert.OutRefIdeal.Read.val_main_v3_apply]
  simp only [Cert.OutRefIdeal.Read.val_main_v2_apply, Cert.OutRefIdeal.Read.val_main_cst_apply, Cert.OutRefIdeal.Read.val_main_cst_0_apply, Cert.OutRefIdeal.Read.val_main_cst_1_apply]
  pointwise [k0_pay2]
  refine congrArg₂ (fun a b : EReal => a * b) (congrArg₂ (fun a b : EReal => a * b) (core y)
    (congrArg (fun z : EReal => Ideal.rsqrt (Ideal.div z _ + _))
      (Finset.sum_congr rfl fun k _ => congrArg₂ (fun a b : EReal => a * b) (row k) (row k)))) ?_
  blk_point [iblk, V, idx t]

/-- the result array after the run -/
theorem finalH (c : Dev nD) : (dats m 0 c).arrAt 5 (cfgs 0).N = REFH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact pointH m c t y

end Cert.OutIdeal.Grad

end
-- ==== Proof.OutA.lean ====
module

public import proofs.«01_k».proof.Defs
public import proofs.«01_k».proof.Proof.OutV
public import proofs.«01_k».proof.Proof.Gen.OutRefIdeal.Run

@[expose] public section

set_option maxRecDepth 16384

noncomputable section

open Idealize.ShloMosaic Idealize.ShloMosaic.TcCoe Idealize.SL.Sem

namespace Cert.OutIdeal.Grad

open Cert.OutIdeal

theorem algebraic : Cert.algebraic_OutIdeal_OutRefIdeal (hOutIdeal := Cert.OutIdeal.Gen.facts)
    (hOutRefIdeal := Cert.OutRefIdeal.Gen.facts) := by
  pair_intro
  · run_from Cert.OutIdeal.Gen.run_main m g
  · run_from Cert.OutRefIdeal.Value.run m' g'
    · rw [Cert.OutIdeal.Grad.finalX m c]
      rfl
    · rw [Cert.OutIdeal.Grad.finalH m c]
      rfl

theorem frame_ref : Cert.quiescent_OutRefIdeal (hOutRefIdeal := Cert.OutRefIdeal.Gen.facts) := by
  intro m ρ _
  exact (θ_run Cert.OutRefIdeal.defs _ _).mono (fun r h => ⟨fun c => (h c).2.2, sem_eq_zero_of_no_sems (by decide) r.2⟩)
    (Cert.OutRefIdeal.Value.run (F := Ideal) m ρ)

end Cert.OutIdeal.Grad

end
-- ==== Proof.UpV.lean ====
module

public import proofs.«01_k».proof.Proof.Gen.UpIdeal.Frame
public import proofs.«01_k».proof.Proof.Gen.UpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Grad

open Cert.UpIdeal Cert.UpIdeal.Gen

variable (m : (ℓ : Loc nD τ sig) → Buf (Elt Ideal) ℓ)

/-- what the reference computes, over the kernel's argument arrays -/
abbrev REFU (x0 : FVec Ideal S2048x2048 .f32) (x1 : FVec Ideal S2048x8192 .f32) : FVec Ideal S2048x8192 .bf16 :=
  Cert.UpRefIdeal.Read.val_main_v1 (F := Ideal) x0 x1

/-- what the reference computes, over the kernel's argument arrays -/
abbrev REFA (x0 : FVec Ideal S2048x2048 .f32) (x1 : FVec Ideal S2048x8192 .f32) : FVec Ideal S2048x8192 .bf16 :=
  Cert.UpRefIdeal.Read.val_main_v4 (F := Ideal) x0 x1

theorem idx : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

/-- what a point stores is the reference's value at the place it stores it -/
theorem pointU (c : Dev nD) (t : Fin cfg0.N) (y) : k0_pay2 (iblk m c 1 t) (iblk m c 0 t) y
    = REFU (m ((c : Thread nD τ).loc main_arg0)) (m ((c : Thread nD τ).loc main_arg1)) (((cfg0.win 2).blk t).view.emb y) := by
  unfold REFU
  rw [Cert.UpRefIdeal.Read.val_main_v1_apply, Cert.UpRefIdeal.Read.val_main_v0_apply]
  pointwise [k0_pay2, k0_pay1]
  blk_point [iblk, V, idx t]

/-- the result array after the run -/
theorem finalU (c : Dev nD) : (dats m 0 c).arrAt 2 (cfgs 0).N = REFU (m ((c : Thread nD τ).loc main_arg0)) (m ((c : Thread nD τ).loc main_arg1)) := by
  refine (dats m 0 c).arrAt_eq_of_covers 2 _ (by decide +kernel) fun t _ y => ?_
  blk_simp
  rw [after0_2]; frame_out
  exact pointU m c t y

/-- what a point stores is the reference's value at the place it stores it -/
theorem pointA (c : Dev nD) (t : Fin cfg0.N) (y) : k0_pay3 (iblk m c 1 t) (iblk m c 0 t) y
    = REFA (m ((c : Thread nD τ).loc main_arg0)) (m ((c : Thread nD τ).loc main_arg1)) (((cfg0.win 3).blk t).view.emb y) := by
  have e : k0_pay1 (F := Ideal) (iblk m c 1 t) (iblk m c 0 t) y
      = Cert.UpRefIdeal.Read.val_main_v0 (F := Ideal) (m ((c : Thread nD τ).loc main_arg0))
        (m ((c : Thread nD τ).loc main_arg1)) (((cfg0.win 3).blk t).view.emb y) := by
    rw [Cert.UpRefIdeal.Read.val_main_v0_apply]
    pointwise [k0_pay1]
    blk_point [iblk, V, idx t]
  unfold REFA
  rw [Cert.UpRefIdeal.Read.val_main_v4_apply, Cert.UpRefIdeal.Read.val_main_v3_apply, Cert.UpRefIdeal.Read.val_main_v2_apply, Cert.UpRefIdeal.Read.val_main_call0_v0_apply,
    Cert.UpRefIdeal.Read.val_main_call0_cst_apply, ← e]
  pointwise [k0_pay3]

/-- the result array after the run -/
theorem finalA (c : Dev nD) : (dats m 0 c).arrAt 3 (cfgs 0).N = REFA (m ((c : Thread nD τ).loc main_arg0)) (m ((c : Thread nD τ).loc main_arg1)) := by
  refine (dats m 0 c).arrAt_eq_of_covers 3 _ (by decide +kernel) fun t _ y => ?_
  blk_simp
  rw [after0_3]; frame_out
  exact pointA m c t y

end Cert.UpIdeal.Grad

end
-- ==== Proof.UpA.lean ====
module

public import proofs.«01_k».proof.Defs
public import proofs.«01_k».proof.Proof.UpV
public import proofs.«01_k».proof.Proof.Gen.UpRefIdeal.Run

@[expose] public section

set_option maxRecDepth 16384

noncomputable section

open Idealize.ShloMosaic Idealize.ShloMosaic.TcCoe Idealize.SL.Sem

namespace Cert.UpIdeal.Grad

open Cert.UpIdeal

theorem algebraic : Cert.algebraic_UpIdeal_UpRefIdeal (hUpIdeal := Cert.UpIdeal.Gen.facts)
    (hUpRefIdeal := Cert.UpRefIdeal.Gen.facts) := by
  pair_intro
  · run_from Cert.UpIdeal.Gen.run_main m g
  · run_from Cert.UpRefIdeal.Value.run m' g'
    · rw [Cert.UpIdeal.Grad.finalU m c]
      rfl
    · rw [Cert.UpIdeal.Grad.finalA m c]
      rfl

theorem frame_ref : Cert.quiescent_UpRefIdeal (hUpRefIdeal := Cert.UpRefIdeal.Gen.facts) := by
  intro m ρ _
  exact (θ_run Cert.UpRefIdeal.defs _ _).mono (fun r h => ⟨fun c => (h c).2.2, sem_eq_zero_of_no_sems (by decide) r.2⟩)
    (Cert.UpRefIdeal.Value.run (F := Ideal) m ρ)

end Cert.UpIdeal.Grad

end
-- ==== Proof.DownV.lean ====
module

public import proofs.«01_k».proof.Proof.Gen.DownIdeal.Frame
public import proofs.«01_k».proof.Proof.Gen.DownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Grad

open Cert.DownIdeal Cert.DownIdeal.Gen

variable (m : (ℓ : Loc nD τ sig) → Buf (Elt Ideal) ℓ)

/-- what the reference computes, over the kernel's argument arrays -/
abbrev REF (x0 : FVec Ideal S2048x2048 .f32) (x1 : FVec Ideal S2048x8192 .f32) (x2 : FVec Ideal S8192x2048 .f32) : FVec Ideal S2048x2048 .f32 :=
  Cert.DownRefIdeal.Read.val_main_v3 (F := Ideal) x0 x1 x2

theorem idx : ∀ t : Fin cfg0.N, win0_0.index t = ![t.val / 8, t.val % 4] ∧ win0_1.index t = ![t.val % 4, 0, t.val % 8 / 4]
    ∧ win0_2.index t = ![t.val / 8, t.val % 8 / 4] ∧ win0_3.index t = ![t.val / 8, t.val % 8 / 4] :=
  (by decide +kernel : ∀ t : Fin grid0.N, _)

/-- the share of the product a point adds -/
def part (c : Dev nD) (t : Fin cfg0.N) (j : S1024x1024.Idx) : EReal :=
  ∑ k : Fin 2048, (show EReal from iblk m c 0 t (ix2 (j 0) k)) * (show EReal from iblk m c 1 t (ix3 0 k (j 1)))

/-- the first point of a run starts the accumulator at its share -/
theorem acc_first (c : Dev nD) (t : Fin cfg0.N) (h : t.val % 4 = 0) (j) :
    (outsAt0 m c t.val t.isLt).2.2 j = part m c t j := by
  rw [outsAt0_A m c t h (by omega) (by omega)]; frame_out
  pointwise [k0_pay1, part]

/-- the points in between add theirs -/
theorem acc_step (c : Dev nD) (t : Fin cfg0.N) (h : 1 ≤ t.val % 4 ∧ t.val % 4 ≤ 2) (j) :
    (outsAt0 m c t.val t.isLt).2.2 j
      = (outsAt0 m c (t.val - 1) (lt_of_le_of_lt (Nat.sub_le _ _) t.isLt)).2.2 j + part m c t j := by
  rw [outsAt0_B m c t (by omega) h (by omega)]; frame_out
  pointwise [k0_pay2, part]
  exact congrArg (fun f : S1024x1024.Idx → EReal => f j + _) ((Memref.isWhole_whole cc0_scratch0).read_unread _)

/-- the last one stores the residual, the accumulator and its own share -/
theorem out_last (c : Dev nD) (t : Fin cfg0.N) (h : t.val % 4 = 3) (j) :
    (outsAt0 m c t.val t.isLt).1 j = (show EReal from iblk m c 2 t j)
      + ((outsAt0 m c (t.val - 1) (lt_of_le_of_lt (Nat.sub_le _ _) t.isLt)).2.2 j + part m c t j) := by
  rw [outsAt0_C m c t (by omega) (by omega) h]; frame_out
  pointwise [k0_pay3, part]
  exact congrArg (fun f : S1024x1024.Idx → EReal => _ + (f j + _)) ((Memref.isWhole_whole cc0_scratch0).read_unread _)

/-- the residual and the four shares of a run, in the order they are added -/
theorem run (c : Dev nD) (q : ℕ) (h0 : 4 * q < cfg0.N) (h1 : 4 * q + 1 < cfg0.N) (h2 : 4 * q + 2 < cfg0.N)
    (h3 : 4 * q + 3 < cfg0.N) (j) :
    (outsAt0 m c (4 * q + 3) h3).1 j
      = (show EReal from iblk m c 2 ⟨4 * q + 3, h3⟩ j) + (part m c ⟨4 * q, h0⟩ j + part m c ⟨4 * q + 1, h1⟩ j
        + part m c ⟨4 * q + 2, h2⟩ j + part m c ⟨4 * q + 3, h3⟩ j) := by
  have e3 := out_last m c ⟨4 * q + 3, h3⟩ (by dsimp only; omega) j
  have e2 := acc_step m c ⟨4 * q + 2, h2⟩ (by dsimp only; omega) j
  have e1 := acc_step m c ⟨4 * q + 1, h1⟩ (by dsimp only; omega) j
  have e0 := acc_first m c ⟨4 * q, h0⟩ (by dsimp only; omega) j
  exact e3.trans (congrArg (fun z : EReal => _ + (z + _)) (e2.trans (congrArg (fun z : EReal => z + _)
    (e1.trans (congrArg (fun z : EReal => z + _) e0)))))

/-- the result array after the run -/
theorem final (c : Dev nD) : (dats m 0 c).arrAt 3 (cfgs 0).N
    = REF (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht : t.val % 4 = 3 := (flush0_3 t).mp hf
  blk_simp
  rw [after0_3]
  obtain ⟨q, hq⟩ : ∃ q, t.val = 4 * q + 3 := ⟨t.val / 4, by omega⟩
  obtain ⟨n, hn⟩ := t
  dsimp only at hq ht
  subst hq
  have hn' : 4 * q + 3 < 16 := lt_of_lt_of_eq hn N_0
  have h0 : 4 * q < cfg0.N := lt_of_lt_of_eq (by omega) N_0.symm
  have h1 : 4 * q + 1 < cfg0.N := lt_of_lt_of_eq (by omega) N_0.symm
  have h2 : 4 * q + 2 < cfg0.N := lt_of_lt_of_eq (by omega) N_0.symm
  refine (run m c q h0 h1 h2 hn y).trans ?_
  unfold REF
  rw [Cert.DownRefIdeal.Read.val_main_v3_apply, Cert.DownRefIdeal.Read.val_main_v2_apply,
    Fin.sum_univ_tiles 4 2048 rfl, Fin.sum_univ_four]
  refine congrArg₂ (fun a b : EReal => a + b) ?_ (congrArg₂ (fun a b : EReal => a + b)
    (congrArg₂ (fun a b : EReal => a + b) (congrArg₂ (fun a b : EReal => a + b) ?_ ?_) ?_) ?_)
  · blk_point [iblk, V, idx ⟨4 * q + 3, hn⟩]
  · unfold part
    refine Finset.sum_congr rfl fun x _ => ?_
    refine congrArg₂ (fun a b : EReal => a * b) ?_ ?_
    · rw [Cert.DownRefIdeal.Read.val_main_v1_apply, Cert.DownRefIdeal.Read.val_main_v0_apply,
        Cert.DownRefIdeal.Read.val_main_call0_v0_apply, Cert.DownRefIdeal.Read.val_main_call0_cst_apply]
      blk_point [iblk, V, idx ⟨4 * q, h0⟩, idx ⟨4 * q + 3, hn⟩]
    · blk_point [iblk, V, idx ⟨4 * q, h0⟩, idx ⟨4 * q + 3, hn⟩]
  · unfold part
    refine Finset.sum_congr rfl fun x _ => ?_
    refine congrArg₂ (fun a b : EReal => a * b) ?_ ?_
    · rw [Cert.DownRefIdeal.Read.val_main_v1_apply, Cert.DownRefIdeal.Read.val_main_v0_apply,
        Cert.DownRefIdeal.Read.val_main_call0_v0_apply, Cert.DownRefIdeal.Read.val_main_call0_cst_apply]
      blk_point [iblk, V, idx ⟨4 * q + 1, h1⟩, idx ⟨4 * q + 3, hn⟩]
    · blk_point [iblk, V, idx ⟨4 * q + 1, h1⟩, idx ⟨4 * q + 3, hn⟩]
  · unfold part
    refine Finset.sum_congr rfl fun x _ => ?_
    refine congrArg₂ (fun a b : EReal => a * b) ?_ ?_
    · rw [Cert.DownRefIdeal.Read.val_main_v1_apply, Cert.DownRefIdeal.Read.val_main_v0_apply,
        Cert.DownRefIdeal.Read.val_main_call0_v0_apply, Cert.DownRefIdeal.Read.val_main_call0_cst_apply]
      blk_point [iblk, V, idx ⟨4 * q + 2, h2⟩, idx ⟨4 * q + 3, hn⟩]
    · blk_point [iblk, V, idx ⟨4 * q + 2, h2⟩, idx ⟨4 * q + 3, hn⟩]
  · unfold part
    refine Finset.sum_congr rfl fun x _ => ?_
    refine congrArg₂ (fun a b : EReal => a * b) ?_ ?_
    · rw [Cert.DownRefIdeal.Read.val_main_v1_apply, Cert.DownRefIdeal.Read.val_main_v0_apply,
        Cert.DownRefIdeal.Read.val_main_call0_v0_apply, Cert.DownRefIdeal.Read.val_main_call0_cst_apply]
      blk_point [iblk, V, idx ⟨4 * q + 3, hn⟩, idx ⟨4 * q + 3, hn⟩]
    · blk_point [iblk, V, idx ⟨4 * q + 3, hn⟩, idx ⟨4 * q + 3, hn⟩]

end Cert.DownIdeal.Grad

end
-- ==== Proof.DownA.lean ====
module

public import proofs.«01_k».proof.Defs
public import proofs.«01_k».proof.Proof.DownV
public import proofs.«01_k».proof.Proof.Gen.DownRefIdeal.Run

@[expose] public section

set_option maxRecDepth 16384

noncomputable section

open Idealize.ShloMosaic Idealize.ShloMosaic.TcCoe Idealize.SL.Sem

namespace Cert.DownIdeal.Grad

open Cert.DownIdeal

theorem algebraic : Cert.algebraic_DownIdeal_DownRefIdeal (hDownIdeal := Cert.DownIdeal.Gen.facts)
    (hDownRefIdeal := Cert.DownRefIdeal.Gen.facts) := by
  pair_intro
  · run_from Cert.DownIdeal.Gen.run_main m g
  · run_from Cert.DownRefIdeal.Value.run m' g'
    rw [Cert.DownIdeal.Grad.final m c]
    rfl

theorem frame_ref : Cert.quiescent_DownRefIdeal (hDownRefIdeal := Cert.DownRefIdeal.Gen.facts) := by
  intro m ρ _
  exact (θ_run Cert.DownRefIdeal.defs _ _).mono (fun r h => ⟨fun c => (h c).2, sem_eq_zero_of_no_sems (by decide) r.2⟩)
    (Cert.DownRefIdeal.Value.run (F := Ideal) m ρ)

end Cert.DownIdeal.Grad

end
-- ==== Proof.Norm.lean ====
module

public import Idealize.ShloMosaic.PureOps.Ideal

@[expose] public section

noncomputable section

open Idealize.ShloMosaic

namespace Cert.Norm

/-- a positive real distributes over every sum of extended reals -/
theorem coe_mul_add {r : ℝ} (h : 0 < r) (a b : EReal) : (r : EReal) * (a + b) = r * a + r * b := by
  induction a using EReal.rec <;> induction b using EReal.rec <;>
    simp only [EReal.coe_mul_top_of_pos h, EReal.coe_mul_bot_of_pos h, EReal.bot_add, EReal.add_bot, EReal.top_add_coe,
      EReal.coe_add_top, EReal.top_add_top, ← EReal.coe_mul, ← EReal.coe_add, mul_add]

theorem coe_mul_sum {ι : Type*} (s : Finset ι) {r : ℝ} (h : 0 < r) (f : ι → EReal) :
    (r : EReal) * ∑ k ∈ s, f k = ∑ k ∈ s, r * f k := by
  classical
  induction s using Finset.induction_on with
  | empty => simp
  | insert a s ha ih => rw [Finset.sum_insert ha, Finset.sum_insert ha, coe_mul_add h, ih]

/-- a square is not negative -/
theorem mul_self_nonneg (x : EReal) : 0 ≤ x * x := by
  induction x using EReal.rec
  · simp
  · rw [← EReal.coe_mul]; exact_mod_cast _root_.mul_self_nonneg _
  · simp

/-- the reciprocal root mean square of a row -/
abbrev rinv {ι : Type} [Fintype ι] (x : ι → EReal) (N E : EReal) : EReal :=
  Ideal.rsqrt (Ideal.div (∑ k, x k * x k) N + E)

/-- what it is: a positive real whose square is the reciprocal of the mean, or zero where the mean is infinite -/
theorem rinv_cases {ι : Type} [Fintype ι] (x : ι → EReal) {n e : ℝ} (hn : 0 < n) (he : 0 < e) :
    (∃ v r : ℝ, 0 < v ∧ 0 < r ∧ r * r = 1 / v ∧ Ideal.div (∑ k, x k * x k) n + e = (v : EReal) ∧ rinv x n e = (r : EReal))
      ∨ (Ideal.div (∑ k, x k * x k) n + e = (⊤ : EReal) ∧ rinv x n e = 0) := by
  have hs : 0 ≤ ∑ k, x k * x k := Finset.sum_nonneg fun k _ => mul_self_nonneg _
  unfold rinv
  generalize ∑ k, x k * x k = s at hs
  induction s using EReal.rec with
  | bot => exact absurd hs (by simp)
  | coe s =>
    have hs' : 0 ≤ s := by exact_mod_cast hs
    have hv : 0 < s * (1 / n) + e := by positivity
    refine Or.inl ⟨s * (1 / n) + e, (Real.sqrt (s * (1 / n) + e))⁻¹, hv, by positivity, ?_, ?_, ?_⟩
    · rw [← mul_inv, Real.mul_self_sqrt hv.le]; exact (one_div _).symm
    · rw [Ideal.div_coe hn.ne', ← EReal.coe_mul, ← EReal.coe_add]
    · rw [Ideal.div_coe hn.ne', ← EReal.coe_mul, ← EReal.coe_add, Ideal.rsqrt_coe, if_neg (not_lt.mpr hv.le), if_neg hv.ne']
  | top =>
    have h : Ideal.div ⊤ (n : EReal) + e = ⊤ := by
      rw [Ideal.div_coe hn.ne', EReal.top_mul_coe_of_pos (by positivity), EReal.top_add_coe]
    exact Or.inr ⟨h, by rw [h, Ideal.rsqrt_top]⟩

theorem mul_coe_add_self (z : EReal) (c : ℝ) : z * c + z * c = z * ((c + c : ℝ) : EReal) := by
  induction z using EReal.rec with
  | bot => rcases lt_trichotomy c 0 with h | h | h
           · rw [EReal.bot_mul_coe_of_neg h, EReal.bot_mul_coe_of_neg (by linarith), EReal.top_add_top]
           · subst h; simp
           · rw [EReal.bot_mul_coe_of_pos h, EReal.bot_mul_coe_of_pos (by linarith), EReal.bot_add]
  | coe z => rw [← EReal.coe_mul, ← EReal.coe_mul, ← EReal.coe_add, mul_add]
  | top => rcases lt_trichotomy c 0 with h | h | h
           · rw [EReal.top_mul_coe_of_neg h, EReal.top_mul_coe_of_neg (by linarith), EReal.bot_add]
           · subst h; simp
           · rw [EReal.top_mul_coe_of_pos h, EReal.top_mul_coe_of_pos (by linarith), EReal.top_add_top]

/-- the gradient of the norm in its input, in the kernel's form and in the one differentiation gives; no entry has to be
    finite -/
theorem rms_dx {ι : Type} [Fintype ι] (x h g : ι → EReal) (a xj : EReal) {n e : ℝ} (hn : 0 < n) (he : 0 < e) :
    rinv x n e * (a - xj * rinv x n e * Ideal.div (∑ k, h k * g k * (x k * rinv x n e)) n)
      = a * rinv x n e
          + xj * Ideal.div ((∑ k, x k * (h k * g k))
              * (((-(1 / 2) : ℝ) : EReal) * Ideal.div (rinv x n e) (Ideal.div (∑ k, x k * x k) n + e))) n
          + Ideal.div ((∑ k, x k * (h k * g k))
              * (((-(1 / 2) : ℝ) : EReal) * Ideal.div (rinv x n e) (Ideal.div (∑ k, x k * x k) n + e))) n * xj := by
  rcases rinv_cases x hn he with ⟨v, r, hv, hr, hrr, e1, e2⟩ | ⟨e1, e2⟩
  · rw [e1, e2]
    have hq : ∑ k, h k * g k * (x k * r) = r * ∑ k, x k * (h k * g k) := by
      rw [coe_mul_sum _ hr]
      exact Finset.sum_congr rfl fun k _ => by ac_rfl
    rw [hq]
    generalize ∑ k, x k * (h k * g k) = q
    rw [sub_eq_add_neg, coe_mul_add hr, Ideal.div_coe hn.ne', Ideal.div_coe hn.ne', Ideal.div_coe hv.ne', ← EReal.coe_mul,
      ← EReal.coe_mul, add_assoc]
    refine congrArg₂ (fun a b : EReal => a + b) (mul_comm _ _) ?_
    have l : (r : EReal) * -(xj * r * (r * q * ((1 / n : ℝ) : EReal))) = xj * q * ((-(r * r * r / n) : ℝ) : EReal) := by
      rw [mul_neg, EReal.coe_neg, mul_neg]
      refine congrArg (fun z : EReal => -z) ?_
      rw [show (r * r * r / n : ℝ) = r * r * r * (1 / n) by ring, EReal.coe_mul, EReal.coe_mul, EReal.coe_mul]
      ac_rfl
    rw [l, show xj * (q * ((-(1 / 2) * (r * (1 / v)) : ℝ) : EReal) * ((1 / n : ℝ) : EReal))
        = xj * q * ((-(1 / 2) * (r * (1 / v)) * (1 / n) : ℝ) : EReal) by rw [EReal.coe_mul (-(1 / 2) * (r * (1 / v)))]; ac_rfl,
      show q * ((-(1 / 2) * (r * (1 / v)) : ℝ) : EReal) * ((1 / n : ℝ) : EReal) * xj
        = xj * q * ((-(1 / 2) * (r * (1 / v)) * (1 / n) : ℝ) : EReal) by rw [EReal.coe_mul (-(1 / 2) * (r * (1 / v)))]; ac_rfl, mul_coe_add_self]
    refine congrArg (fun z : ℝ => xj * q * (z : EReal)) ?_
    rw [← hrr]; ring
  · rw [e1, e2]
    have h0 : Ideal.div 0 (⊤ : EReal) = 0 := by simp [Ideal.div]
    have hn0 : Ideal.div 0 (n : EReal) = 0 := by rw [Ideal.div_coe hn.ne', zero_mul]
    simp only [h0, hn0, zero_mul, mul_zero, add_zero]

/-- 2048 as the format writes it -/
theorem lit_2048 : Ideal.ofBits .f32 1157627904#32 = ((2048 : ℝ) : EReal) := by
  simp [Ideal.ofBits, Ideal.ieee, -EReal.coe_mul]; norm_num

theorem lit_half : Ideal.ofBits .f32 3204448256#32 = ((-(1 / 2) : ℝ) : EReal) := by
  simp [Ideal.ofBits, Ideal.ieee, -EReal.coe_mul]; norm_num

theorem lit_64 : Ideal.ofBits .f32 1115684864#32 = ((64 : ℝ) : EReal) := by
  simp [Ideal.ofBits, Ideal.ieee, -EReal.coe_mul]; norm_num

theorem lit_512 : Ideal.ofBits .f32 1140850688#32 = ((512 : ℝ) : EReal) := by
  simp [Ideal.ofBits, Ideal.ieee, -EReal.coe_mul]; norm_num

theorem lit_1024 : Ideal.ofBits .f32 1149239296#32 = ((1024 : ℝ) : EReal) := by
  simp [Ideal.ofBits, Ideal.ieee, -EReal.coe_mul]; norm_num

theorem lit_eighth : Ideal.ofBits .f32 1040187392#32 = ((1 / 8 : ℝ) : EReal) := by
  simp [Ideal.ofBits, Ideal.ieee, -EReal.coe_mul]; norm_num

theorem lit_one : Ideal.ofBits .f32 1065353216#32 = 1 := by
  have h : Ideal.ofBits .f32 1065353216#32 = ((1 : ℝ) : EReal) := by
    simp [Ideal.ofBits, Ideal.ieee, -EReal.coe_mul, -EReal.coe_one]; norm_num
  rw [h, EReal.coe_one]

theorem lit_zero : Ideal.ofBits .f32 0#32 = 0 := by
  simp [Ideal.ofBits, Ideal.ieee, -EReal.coe_mul]

theorem lit_bot : Ideal.ofBits .f32 4286578688#32 = ⊥ := by
  simp [Ideal.ofBits, Ideal.ieee, -EReal.coe_mul]

/-- it is a real number for every row -/
theorem rinv_real {ι : Type} [Fintype ι] (x : ι → EReal) {n e : ℝ} (hn : 0 < n) (he : 0 < e) :
    ∃ r : ℝ, rinv x n e = (r : EReal) := by
  rcases rinv_cases x hn he with ⟨v, r, _, _, _, _, h⟩ | ⟨_, h⟩
  · exact ⟨r, h⟩
  · exact ⟨0, by rw [h, EReal.coe_zero]⟩

theorem lit_eps : ∃ e : ℝ, 0 < e ∧ Ideal.ofBits .f32 897988541#32 = (e : EReal) := by
  refine ⟨(8796093 : ℝ) * 2 ^ (-43 : ℤ), by positivity, ?_⟩
  simp [Ideal.ofBits, Ideal.ieee, -EReal.coe_mul]

end Cert.Norm

end
-- ==== Proof.RmsBwdV.lean ====
module

public import proofs.«01_k».proof.Proof.Gen.RmsBwdIdeal.Frame
public import proofs.«01_k».proof.Proof.Gen.RmsBwdRefIdeal.Read
public import Idealize.ShloMosaic.Lib.Pipeline.ValueKit
public import Idealize.ShloMosaic.Lib.Claim
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.RmsBwdIdeal.Grad

open Cert.RmsBwdIdeal Cert.RmsBwdIdeal.Gen

variable (m : (ℓ : Loc nD τ sig) → Buf (Elt Ideal) ℓ)

/-- the gradient in the input, over the kernel's argument arrays -/
abbrev REF (x0 x1 : FVec Ideal S2048x2048 .f32) (x2 : FVec Ideal S2048 .f32) (x3 : FVec Ideal S2048x2048 .f32) :
    FVec Ideal S2048x2048 .f32 :=
  Cert.RmsBwdRefIdeal.Read.val_main_v36 (F := Ideal) x0 x1 x2 x3

/-- the same, as it is passed on -/
abbrev REFB (x0 x1 : FVec Ideal S2048x2048 .f32) (x2 : FVec Ideal S2048 .f32) (x3 : FVec Ideal S2048x2048 .f32) :
    FVec Ideal S2048x2048 .bf16 :=
  Cert.RmsBwdRefIdeal.Read.val_main_v37 (F := Ideal) x0 x1 x2 x3

/-- the gradient in the scale -/
abbrev REFG (x0 x1 : FVec Ideal S2048x2048 .f32) : FVec Ideal S1x2048 .f32 :=
  Cert.RmsBwdRefIdeal.Read.val_main_v38 (F := Ideal) x0 x1

open Cert.RmsBwdRefIdeal.Read in
/-- the gradient in the input, row by row -/
theorem ref_apply (x0 x1 : FVec Ideal S2048x2048 .f32) (x2 : FVec Ideal S2048 .f32) (x3 : FVec Ideal S2048x2048 .f32) (y : S2048x2048.Idx) :
    REF x0 x1 x2 x3 y = x3 y
      + Cert.Norm.rinv (fun k => x1 (ix2 (y 0) k)) (Ideal.ofBits .f32 1157627904#32) (Ideal.ofBits .f32 897988541#32)
        * (x0 y * x2 (ix1 (y 1)) - x1 y
            * Cert.Norm.rinv (fun k => x1 (ix2 (y 0) k)) (Ideal.ofBits .f32 1157627904#32) (Ideal.ofBits .f32 897988541#32)
            * Ideal.div (∑ k : Fin 2048, x0 (ix2 (y 0) k) * x2 (ix1 k) * (x1 (ix2 (y 0) k)
              * Cert.Norm.rinv (fun k => x1 (ix2 (y 0) k)) (Ideal.ofBits .f32 1157627904#32) (Ideal.ofBits .f32 897988541#32)))
                (Ideal.ofBits .f32 1157627904#32)) := by
  obtain ⟨e, he, hl⟩ := Cert.Norm.lit_eps
  unfold REF
  pointwise [val_main_v36, val_main_v35, val_main_v34, val_main_v33, val_main_v32, val_main_v31, val_main_v30, val_main_v29,
    val_main_v28, val_main_v27, val_main_v26, val_main_v25, val_main_v24, val_main_v23, val_main_v22, val_main_v20, val_main_v19,
    val_main_v13, val_main_v10, val_main_v9, val_main_v8, val_main_v7, val_main_v6, val_main_v5, val_main_v4, val_main_v3,
    val_main_v2, val_main_v1, val_main_v0, val_main_cst, val_main_cst_0, val_main_cst_1, val_main_cst_2, val_main_cst_6,
    val_main_cst_5, val_main_cst_7]
  rw [hl, Cert.Norm.lit_2048, Cert.Norm.lit_half]
  refine congrArg (fun z : EReal => x3 y + z) ?_
  simp only [Fin.sum_univ_one, Fin.isValue]
  exact (Cert.Norm.rms_dx (fun k : Fin 2048 => x1 (ix2 (y 0) k)) (fun k => x0 (ix2 (y 0) k)) (fun k => x2 (ix1 k))
    (x0 y * x2 (ix1 (y 1))) (x1 y) (by norm_num : (0 : ℝ) < 2048) he).symm

/-- the block each window is on at each point -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![t.val, 0]
    ∧ win0_6.index t = ![0, 0] :=
  (by decide +kernel : ∀ t : Fin grid0.N, _)

/-- what a point stores is the reference's gradient at the place it stores it -/
theorem point (c : Dev nD) (t : Fin cfg0.N) (y) :
    k0_pay5 (iblk m c 1 t) (iblk m c 0 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  rw [ref_apply]
  pointwise [k0_pay5, k0_pay4, k0_pay3]
  unfold Cert.Norm.rinv
  have e0 : ∀ k : Fin 2048, (show EReal from iblk m c 1 t (ix2 (y 0) k))
      = m ((c : Thread nD τ).loc main_arg1) (ix2 (((cfg0.win 4).blk t).view.emb y 0) k) := fun k => by
    blk_point [iblk, V, idx t]
  blk_point [iblk, V, idx t]
  exact congrArg₂ (fun a b : EReal => a * b) (e0 _) (e0 _)

/-- the same, as it is passed on -/
theorem pointB (c : Dev nD) (t : Fin cfg0.N) (y) :
    k0_pay6 (iblk m c 1 t) (iblk m c 0 t) (iblk m c 2 t) (iblk m c 3 t) y
      = REFB (m ((c : Thread nD τ).loc main_arg0)) (m ((c : Thread nD τ).loc main_arg1)) (m ((c : Thread nD τ).loc main_arg2))
          (m ((c : Thread nD τ).loc main_arg3)) (((cfg0.win 5).blk t).view.emb y) := by
  refine Eq.trans (b := k0_pay5 (iblk m c 1 t) (iblk m c 0 t) (iblk m c 2 t) (iblk m c 3 t) y) (by pointwise [k0_pay6]) ?_
  refine (point m c t y).trans ?_
  exact rfl

/-- what a point adds to the scale's gradient -/
def part (c : Dev nD) (t : Fin cfg0.N) (j : S1x2048.Idx) : EReal :=
  ∑ k : Fin 256, (show EReal from iblk m c 0 t (ix2 k (j 1))) * (show EReal from k0_pay4 (iblk m c 1 t) (ix2 k (j 1)))

/-- the first point starts the sum over the rows -/
theorem acc_first (c : Dev nD) (t : Fin cfg0.N) (h : t.val % 8 = 0) (j) :
    (outsAt0 m c t.val t.isLt).2.2.1 j = part m c t j := by
  rw [outsAt0_A m c t h]; frame_out
  pointwise [k0_pay1, k0_pay7, part]

/-- every other one adds its rows -/
theorem acc_step (c : Dev nD) (t : Fin cfg0.N) (h : ¬t.val % 8 = 0) (j) :
    (outsAt0 m c t.val t.isLt).2.2.1 j
      = (outsAt0 m c (t.val - 1) (lt_of_le_of_lt (Nat.sub_le _ _) t.isLt)).2.2.1 j + part m c t j := by
  rw [outsAt0_B m c t h]; frame_out
  pointwise [k0_pay1, part]

/-- the sum after each point -/
theorem acc (c : Dev nD) (j) : ∀ (n : ℕ) (hn : n < cfg0.N),
    (outsAt0 m c n hn).2.2.1 j = ∑ p : Fin (n + 1), part m c ⟨p.val, lt_of_le_of_lt (Nat.le_of_lt_succ p.isLt) hn⟩ j
  | 0, hn => by
    rw [acc_first m c ⟨0, hn⟩ rfl j]; simp
  | n + 1, hn => by
    have h8 : n + 1 < 8 := lt_of_lt_of_eq hn N_0
    rw [Fin.sum_univ_castSucc]
    refine (acc_step m c ⟨n + 1, hn⟩ (by dsimp only; omega) j).trans ?_
    exact congrArg (fun z : EReal => z + part m c ⟨n + 1, hn⟩ j) (acc c j n (by omega))

/-- the gradient in the input after the run -/
theorem finalX (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  by_cases h : t.val % 8 = 0
  · rw [outsAt0_A m c t h]; frame_out
    exact point m c t y
  · rw [outsAt0_B m c t h]; frame_out
    exact point m c t y

/-- its second copy after the run -/
theorem finalB (c : Dev nD) : (dats m 0 c).arrAt 5 (cfgs 0).N
    = REFB (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  by_cases h : t.val % 8 = 0
  · rw [outsAt0_A m c t h]; frame_out
    exact pointB m c t y
  · rw [outsAt0_B m c t h]; frame_out
    exact pointB m c t y

/-- the eight blocks of rows, after the last point -/
theorem acc_last (c : Dev nD) (t : Fin cfg0.N) (h : t.val % 8 = 7) (j) :
    (outsAt0 m c t.val t.isLt).2.2.1 j = ∑ p : Fin 8, part m c ⟨p.val, lt_of_lt_of_eq p.isLt N_0.symm⟩ j := by
  obtain ⟨n, hn⟩ := t
  have hn' : n < 8 := lt_of_lt_of_eq hn N_0
  obtain rfl : n = 7 := by dsimp only at h; omega
  exact acc m c j 7 hn

open Cert.RmsBwdRefIdeal.Read in
/-- a point's share is the reference's sum over its rows -/
theorem part_eq (c : Dev nD) (t s : Fin cfg0.N) (p : Fin 8) (h : t.val = p.val) (k : Fin 256) (y) :
    (show EReal from iblk m c 0 t (ix2 k (y 1))) * (show EReal from k0_pay4 (iblk m c 1 t) (ix2 k (y 1)))
      = val_main_v16 (F := Ideal) (m ((c : Thread nD τ).loc main_arg0)) (m ((c : Thread nD τ).loc main_arg1))
          (ix2 (⟨p.val * 256 + k.val, by omega⟩ : Fin 2048) (((cfg0.win 6).blk s).view.emb y 1)) := by
  pointwise [val_main_v16, val_main_v12, val_main_v11, val_main_v7,
    val_main_v6, val_main_v5, val_main_v4, val_main_v3, val_main_v2, val_main_v1, val_main_v0, val_main_cst, val_main_cst_0,
    val_main_cst_1]
  pointwise [k0_pay4, k0_pay3]
  refine (mul_comm (G := EReal) _ _).trans ?_
  have e0 : ∀ x : Fin 2048, (show EReal from iblk m c 1 t (ix2 k x))
      = m ((c : Thread nD τ).loc main_arg1) (ix2 (⟨p.val * 256 + k.val, by omega⟩ : Fin 2048) x) := fun x => by
    blk_point [iblk, V, idx t, h]
  blk_point [iblk, V, idx t, idx s, h]

/-- the gradient in the scale after the run -/
theorem finalG (c : Dev nD) : (dats m 0 c).arrAt 6 (cfgs 0).N
    = REFG (m ((c : Thread nD τ).loc main_arg0)) (m ((c : Thread nD τ).loc main_arg1)) := by
  refine (dats m 0 c).arrAt_eq_of_covers 6 _ (by decide +kernel) fun t hf y => ?_
  have ht : t.val % 8 = 7 := (flush0_6 t).mp hf
  blk_simp
  rw [after0_6]
  refine (acc_last m c t ht y).trans ?_
  unfold REFG
  pointwise [Cert.RmsBwdRefIdeal.Read.val_main_v38, Cert.RmsBwdRefIdeal.Read.val_main_v21, Cert.RmsBwdRefIdeal.Read.val_main_v18,
    Cert.RmsBwdRefIdeal.Read.val_main_v17, Cert.RmsBwdRefIdeal.Read.val_main_cst_3, Cert.RmsBwdRefIdeal.Read.val_main_cst_4]
  simp only [Fin.sum_univ_one, Fin.isValue]
  rw [Fin.sum_univ_tiles 8 256 rfl]
  refine Finset.sum_congr rfl fun p _ => ?_
  unfold part
  refine Finset.sum_congr rfl fun k _ => ?_
  exact part_eq m c _ t p rfl k y

end Cert.RmsBwdIdeal.Grad

end
-- ==== Proof.RmsBwdA.lean ====
module

public import proofs.«01_k».proof.Defs
public import proofs.«01_k».proof.Proof.RmsBwdV
public import proofs.«01_k».proof.Proof.Gen.RmsBwdRefIdeal.Run

@[expose] public section

set_option maxRecDepth 16384

noncomputable section

open Idealize.ShloMosaic Idealize.ShloMosaic.TcCoe Idealize.SL.Sem

namespace Cert.RmsBwdIdeal.Grad

open Cert.RmsBwdIdeal

theorem algebraic : Cert.algebraic_RmsBwdIdeal_RmsBwdRefIdeal (hRmsBwdIdeal := Cert.RmsBwdIdeal.Gen.facts)
    (hRmsBwdRefIdeal := Cert.RmsBwdRefIdeal.Gen.facts) := by
  pair_intro
  · run_from Cert.RmsBwdIdeal.Gen.run_main m g
  · run_from Cert.RmsBwdRefIdeal.Value.run m' g'
    · rw [Cert.RmsBwdIdeal.Grad.finalX m c]
      rfl
    · rw [Cert.RmsBwdIdeal.Grad.finalB m c]
      rfl
    · rw [Cert.RmsBwdIdeal.Grad.finalG m c]
      rfl

theorem frame_ref : Cert.quiescent_RmsBwdRefIdeal (hRmsBwdRefIdeal := Cert.RmsBwdRefIdeal.Gen.facts) := by
  intro m ρ _
  exact (θ_run Cert.RmsBwdRefIdeal.defs _ _).mono (fun r h => ⟨fun c => (h c).2.2.2, sem_eq_zero_of_no_sems (by decide) r.2⟩)
    (Cert.RmsBwdRefIdeal.Value.run (F := Ideal) m ρ)

end Cert.RmsBwdIdeal.Grad

end
-- ==== Proof.MixnormBwdV.lean ====
module

public import proofs.«01_k».proof.Proof.Gen.MixnormBwdIdeal.Frame
public import proofs.«01_k».proof.Proof.Gen.MixnormBwdRefIdeal.Read
public import Idealize.ShloMosaic.Lib.Pipeline.ValueKit
public import Idealize.ShloMosaic.Lib.Pipeline.ReadBack
public import Idealize.ShloMosaic.Lib.Claim
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MixnormBwdIdeal.Grad

open Cert.MixnormBwdIdeal Cert.MixnormBwdIdeal.Gen

variable (m : (ℓ : Loc nD τ sig) → Buf (Elt Ideal) ℓ)

/-- the gradient in input 1, over the kernel's argument arrays -/
abbrev REFa (x0 : FVec Ideal S2048x2048 .f32) (x1 : FVec Ideal S2048x1024 .f32) (x4 : FVec Ideal S2048 .f32) : FVec Ideal S2048x1024 .f32 :=
  Cert.MixnormBwdRefIdeal.Read.val_main_v117 (F := Ideal) x0 x1 x4

/-- where that input's column stands among all of them -/
def cola (j : Fin 1024) : Fin 2048 := ⟨0 + j.val, by omega⟩

/-- the gradient in that input, row by row -/
theorem refa_apply (x0 : FVec Ideal S2048x2048 .f32) (x1 : FVec Ideal S2048x1024 .f32) (x4 : FVec Ideal S2048 .f32) (r : Fin 2048) (j : Fin 1024) :
    REFa x0 x1 x4 (ix2 r j)
      = Cert.Norm.rinv (fun k => x1 (ix2 r k)) (Ideal.ofBits .f32 1149239296#32) (Ideal.ofBits .f32 897988541#32)
        * (x0 (ix2 r (cola j)) * x4 (ix1 (cola j)) - x1 (ix2 r j) * Cert.Norm.rinv (fun k => x1 (ix2 r k)) (Ideal.ofBits .f32 1149239296#32) (Ideal.ofBits .f32 897988541#32)
            * Ideal.div (∑ k : Fin 1024, x0 (ix2 r (cola k)) * x4 (ix1 (cola k)) * (x1 (ix2 r k) * Cert.Norm.rinv (fun k => x1 (ix2 r k)) (Ideal.ofBits .f32 1149239296#32) (Ideal.ofBits .f32 897988541#32)))
                (Ideal.ofBits .f32 1149239296#32)) := by
  obtain ⟨e, he, hl⟩ := Cert.Norm.lit_eps
  unfold REFa
  pointwise [Cert.MixnormBwdRefIdeal.Read.val_main_v117, Cert.MixnormBwdRefIdeal.Read.val_main_v116, Cert.MixnormBwdRefIdeal.Read.val_main_v115, Cert.MixnormBwdRefIdeal.Read.val_main_v114, Cert.MixnormBwdRefIdeal.Read.val_main_v113, Cert.MixnormBwdRefIdeal.Read.val_main_v112, Cert.MixnormBwdRefIdeal.Read.val_main_v111, Cert.MixnormBwdRefIdeal.Read.val_main_v110, Cert.MixnormBwdRefIdeal.Read.val_main_v109, Cert.MixnormBwdRefIdeal.Read.val_main_v108, Cert.MixnormBwdRefIdeal.Read.val_main_v107, Cert.MixnormBwdRefIdeal.Read.val_main_v106, Cert.MixnormBwdRefIdeal.Read.val_main_v105, Cert.MixnormBwdRefIdeal.Read.val_main_v104, Cert.MixnormBwdRefIdeal.Read.val_main_v102, Cert.MixnormBwdRefIdeal.Read.val_main_v101, Cert.MixnormBwdRefIdeal.Read.val_main_v52, Cert.MixnormBwdRefIdeal.Read.val_main_v14, Cert.MixnormBwdRefIdeal.Read.val_main_v11, Cert.MixnormBwdRefIdeal.Read.val_main_v10, Cert.MixnormBwdRefIdeal.Read.val_main_v9, Cert.MixnormBwdRefIdeal.Read.val_main_v8, Cert.MixnormBwdRefIdeal.Read.val_main_v7, Cert.MixnormBwdRefIdeal.Read.val_main_v6, Cert.MixnormBwdRefIdeal.Read.val_main_v5, Cert.MixnormBwdRefIdeal.Read.val_main_v4, Cert.MixnormBwdRefIdeal.Read.val_main_v3, Cert.MixnormBwdRefIdeal.Read.val_main_v2, Cert.MixnormBwdRefIdeal.Read.val_main_v1, Cert.MixnormBwdRefIdeal.Read.val_main_v0, Cert.MixnormBwdRefIdeal.Read.val_main_cst, Cert.MixnormBwdRefIdeal.Read.val_main_cst_0, Cert.MixnormBwdRefIdeal.Read.val_main_cst_1, Cert.MixnormBwdRefIdeal.Read.val_main_cst_2, Cert.MixnormBwdRefIdeal.Read.val_main_cst_25, Cert.MixnormBwdRefIdeal.Read.val_main_cst_26, Cert.MixnormBwdRefIdeal.Read.val_main_cst_27]
  rw [hl, Cert.Norm.lit_1024, Cert.Norm.lit_half]
  simp only [Fin.sum_univ_one, Fin.isValue]
  refine Eq.trans ?_ (Cert.Norm.rms_dx (fun k : Fin 1024 => x1 (ix2 r k)) (fun k => x0 (ix2 r (cola k))) (fun k => x4 (ix1 (cola k)))
    (x0 (ix2 r (cola j)) * x4 (ix1 (cola j))) (x1 (ix2 r j)) (by norm_num : (0 : ℝ) < 1024) he).symm
  unfold Cert.Norm.rinv cola
  simp only [Nat.zero_add]

/-- what a point stores of it -/
theorem paya_apply (v X : FVec Ideal S256x1024 .f32) (G : FVec Ideal S1x1024 .f32) (p : Fin 256) (j : Fin 1024) :
    k0_pay9 (F := Ideal) v X G (ix2 p j)
      = Cert.Norm.rinv (fun k => v (ix2 p k)) (Ideal.ofBits .f32 1149239296#32) (Ideal.ofBits .f32 897988541#32)
        * (X (ix2 p j) * G (ix2 0 j) - v (ix2 p j) * Cert.Norm.rinv (fun k => v (ix2 p k)) (Ideal.ofBits .f32 1149239296#32) (Ideal.ofBits .f32 897988541#32)
            * Ideal.div (∑ k : Fin 1024, X (ix2 p k) * G (ix2 0 k) * (v (ix2 p k) * Cert.Norm.rinv (fun k => v (ix2 p k)) (Ideal.ofBits .f32 1149239296#32) (Ideal.ofBits .f32 897988541#32)))
                (Ideal.ofBits .f32 1149239296#32)) := by
  pointwise [k0_pay9, k0_pay8, k0_pay7, Cert.Norm.rinv]

/-- what a point adds of the scale's gradient -/
theorem acca_apply (v X : FVec Ideal S256x1024 .f32) (Z : FVec Ideal S1x1024 .f32) (j : Fin 1024) :
    k0_pay10 (F := Ideal) v X Z (ix2 0 j) = Z (ix2 0 j) + ∑ p : Fin 256, X (ix2 p j) * (v (ix2 p j) * Cert.Norm.rinv (fun k => v (ix2 p k)) (Ideal.ofBits .f32 1149239296#32) (Ideal.ofBits .f32 897988541#32)) := by
  pointwise [k0_pay10, k0_pay9, k0_pay8, k0_pay7, Cert.Norm.rinv]

/-- one row's share of the scale's gradient -/
theorem proda_apply (x0 : FVec Ideal S2048x2048 .f32) (x1 : FVec Ideal S2048x1024 .f32) (r : Fin 2048) (j : Fin 1024) :
    Cert.MixnormBwdRefIdeal.Read.val_main_v98 (F := Ideal) x0 x1 (ix2 r j) = x0 (ix2 r (cola j)) * (x1 (ix2 r j) * Cert.Norm.rinv (fun k => x1 (ix2 r k)) (Ideal.ofBits .f32 1149239296#32) (Ideal.ofBits .f32 897988541#32)) := by
  pointwise [Cert.MixnormBwdRefIdeal.Read.val_main_v98, Cert.MixnormBwdRefIdeal.Read.val_main_v52, Cert.MixnormBwdRefIdeal.Read.val_main_v13, Cert.MixnormBwdRefIdeal.Read.val_main_v12, Cert.MixnormBwdRefIdeal.Read.val_main_v8, Cert.MixnormBwdRefIdeal.Read.val_main_v7, Cert.MixnormBwdRefIdeal.Read.val_main_v6, Cert.MixnormBwdRefIdeal.Read.val_main_v5, Cert.MixnormBwdRefIdeal.Read.val_main_v4, Cert.MixnormBwdRefIdeal.Read.val_main_v3, Cert.MixnormBwdRefIdeal.Read.val_main_v2, Cert.MixnormBwdRefIdeal.Read.val_main_v1, Cert.MixnormBwdRefIdeal.Read.val_main_cst, Cert.MixnormBwdRefIdeal.Read.val_main_cst_0, Cert.MixnormBwdRefIdeal.Read.val_main_cst_1]
  refine (mul_comm (G := EReal) _ _).trans ?_
  unfold Cert.Norm.rinv cola
  simp only [Nat.zero_add]

/-- the gradient in input 2, over the kernel's argument arrays -/
abbrev REFc (x0 : FVec Ideal S2048x2048 .f32) (x1 : FVec Ideal S2048x512 .f32) (x4 : FVec Ideal S2048 .f32) : FVec Ideal S2048x512 .f32 :=
  Cert.MixnormBwdRefIdeal.Read.val_main_v95 (F := Ideal) x0 x1 x4

/-- where that input's column stands among all of them -/
def colc (j : Fin 512) : Fin 2048 := ⟨1024 + j.val, by omega⟩

/-- the gradient in that input, row by row -/
theorem refc_apply (x0 : FVec Ideal S2048x2048 .f32) (x1 : FVec Ideal S2048x512 .f32) (x4 : FVec Ideal S2048 .f32) (r : Fin 2048) (j : Fin 512) :
    REFc x0 x1 x4 (ix2 r j)
      = Cert.Norm.rinv (fun k => x1 (ix2 r k)) (Ideal.ofBits .f32 1140850688#32) (Ideal.ofBits .f32 897988541#32)
        * (x0 (ix2 r (colc j)) * x4 (ix1 (colc j)) - x1 (ix2 r j) * Cert.Norm.rinv (fun k => x1 (ix2 r k)) (Ideal.ofBits .f32 1140850688#32) (Ideal.ofBits .f32 897988541#32)
            * Ideal.div (∑ k : Fin 512, x0 (ix2 r (colc k)) * x4 (ix1 (colc k)) * (x1 (ix2 r k) * Cert.Norm.rinv (fun k => x1 (ix2 r k)) (Ideal.ofBits .f32 1140850688#32) (Ideal.ofBits .f32 897988541#32)))
                (Ideal.ofBits .f32 1140850688#32)) := by
  obtain ⟨e, he, hl⟩ := Cert.Norm.lit_eps
  unfold REFc
  pointwise [Cert.MixnormBwdRefIdeal.Read.val_main_v95, Cert.MixnormBwdRefIdeal.Read.val_main_v94, Cert.MixnormBwdRefIdeal.Read.val_main_v93, Cert.MixnormBwdRefIdeal.Read.val_main_v92, Cert.MixnormBwdRefIdeal.Read.val_main_v91, Cert.MixnormBwdRefIdeal.Read.val_main_v90, Cert.MixnormBwdRefIdeal.Read.val_main_v89, Cert.MixnormBwdRefIdeal.Read.val_main_v88, Cert.MixnormBwdRefIdeal.Read.val_main_v87, Cert.MixnormBwdRefIdeal.Read.val_main_v86, Cert.MixnormBwdRefIdeal.Read.val_main_v85, Cert.MixnormBwdRefIdeal.Read.val_main_v84, Cert.MixnormBwdRefIdeal.Read.val_main_v83, Cert.MixnormBwdRefIdeal.Read.val_main_v82, Cert.MixnormBwdRefIdeal.Read.val_main_v80, Cert.MixnormBwdRefIdeal.Read.val_main_v79, Cert.MixnormBwdRefIdeal.Read.val_main_v53, Cert.MixnormBwdRefIdeal.Read.val_main_v31, Cert.MixnormBwdRefIdeal.Read.val_main_v28, Cert.MixnormBwdRefIdeal.Read.val_main_v27, Cert.MixnormBwdRefIdeal.Read.val_main_v26, Cert.MixnormBwdRefIdeal.Read.val_main_v25, Cert.MixnormBwdRefIdeal.Read.val_main_v24, Cert.MixnormBwdRefIdeal.Read.val_main_v23, Cert.MixnormBwdRefIdeal.Read.val_main_v22, Cert.MixnormBwdRefIdeal.Read.val_main_v21, Cert.MixnormBwdRefIdeal.Read.val_main_v20, Cert.MixnormBwdRefIdeal.Read.val_main_v19, Cert.MixnormBwdRefIdeal.Read.val_main_v18, Cert.MixnormBwdRefIdeal.Read.val_main_v17, Cert.MixnormBwdRefIdeal.Read.val_main_cst_3, Cert.MixnormBwdRefIdeal.Read.val_main_cst_4, Cert.MixnormBwdRefIdeal.Read.val_main_cst_5, Cert.MixnormBwdRefIdeal.Read.val_main_cst_6, Cert.MixnormBwdRefIdeal.Read.val_main_cst_19, Cert.MixnormBwdRefIdeal.Read.val_main_cst_20, Cert.MixnormBwdRefIdeal.Read.val_main_cst_21]
  rw [hl, Cert.Norm.lit_512, Cert.Norm.lit_half]
  simp only [Fin.sum_univ_one, Fin.isValue]
  refine Eq.trans ?_ (Cert.Norm.rms_dx (fun k : Fin 512 => x1 (ix2 r k)) (fun k => x0 (ix2 r (colc k))) (fun k => x4 (ix1 (colc k)))
    (x0 (ix2 r (colc j)) * x4 (ix1 (colc j))) (x1 (ix2 r j)) (by norm_num : (0 : ℝ) < 512) he).symm
  unfold Cert.Norm.rinv colc
  exact rfl

/-- what a point stores of it -/
theorem payc_apply (v X : FVec Ideal S256x512 .f32) (G : FVec Ideal S1x512 .f32) (p : Fin 256) (j : Fin 512) :
    k0_pay13 (F := Ideal) v X G (ix2 p j)
      = Cert.Norm.rinv (fun k => v (ix2 p k)) (Ideal.ofBits .f32 1140850688#32) (Ideal.ofBits .f32 897988541#32)
        * (X (ix2 p j) * G (ix2 0 j) - v (ix2 p j) * Cert.Norm.rinv (fun k => v (ix2 p k)) (Ideal.ofBits .f32 1140850688#32) (Ideal.ofBits .f32 897988541#32)
            * Ideal.div (∑ k : Fin 512, X (ix2 p k) * G (ix2 0 k) * (v (ix2 p k) * Cert.Norm.rinv (fun k => v (ix2 p k)) (Ideal.ofBits .f32 1140850688#32) (Ideal.ofBits .f32 897988541#32)))
                (Ideal.ofBits .f32 1140850688#32)) := by
  pointwise [k0_pay13, k0_pay12, k0_pay11, Cert.Norm.rinv]

/-- what a point adds of the scale's gradient -/
theorem accc_apply (v X : FVec Ideal S256x512 .f32) (Z : FVec Ideal S1x512 .f32) (j : Fin 512) :
    k0_pay14 (F := Ideal) v X Z (ix2 0 j) = Z (ix2 0 j) + ∑ p : Fin 256, X (ix2 p j) * (v (ix2 p j) * Cert.Norm.rinv (fun k => v (ix2 p k)) (Ideal.ofBits .f32 1140850688#32) (Ideal.ofBits .f32 897988541#32)) := by
  pointwise [k0_pay14, k0_pay13, k0_pay12, k0_pay11, Cert.Norm.rinv]

/-- one row's share of the scale's gradient -/
theorem prodc_apply (x0 : FVec Ideal S2048x2048 .f32) (x1 : FVec Ideal S2048x512 .f32) (r : Fin 2048) (j : Fin 512) :
    Cert.MixnormBwdRefIdeal.Read.val_main_v76 (F := Ideal) x0 x1 (ix2 r j) = x0 (ix2 r (colc j)) * (x1 (ix2 r j) * Cert.Norm.rinv (fun k => x1 (ix2 r k)) (Ideal.ofBits .f32 1140850688#32) (Ideal.ofBits .f32 897988541#32)) := by
  pointwise [Cert.MixnormBwdRefIdeal.Read.val_main_v76, Cert.MixnormBwdRefIdeal.Read.val_main_v53, Cert.MixnormBwdRefIdeal.Read.val_main_v30, Cert.MixnormBwdRefIdeal.Read.val_main_v29, Cert.MixnormBwdRefIdeal.Read.val_main_v25, Cert.MixnormBwdRefIdeal.Read.val_main_v24, Cert.MixnormBwdRefIdeal.Read.val_main_v23, Cert.MixnormBwdRefIdeal.Read.val_main_v22, Cert.MixnormBwdRefIdeal.Read.val_main_v21, Cert.MixnormBwdRefIdeal.Read.val_main_v20, Cert.MixnormBwdRefIdeal.Read.val_main_v19, Cert.MixnormBwdRefIdeal.Read.val_main_v18, Cert.MixnormBwdRefIdeal.Read.val_main_cst_3, Cert.MixnormBwdRefIdeal.Read.val_main_cst_4, Cert.MixnormBwdRefIdeal.Read.val_main_cst_5]
  refine (mul_comm (G := EReal) _ _).trans ?_
  unfold Cert.Norm.rinv colc
  exact rfl

/-- the gradient in input 3, over the kernel's argument arrays -/
abbrev REFs (x0 : FVec Ideal S2048x2048 .f32) (x1 : FVec Ideal S2048x512 .f32) (x4 : FVec Ideal S2048 .f32) : FVec Ideal S2048x512 .f32 :=
  Cert.MixnormBwdRefIdeal.Read.val_main_v74 (F := Ideal) x0 x1 x4

/-- where that input's column stands among all of them -/
def cols (j : Fin 512) : Fin 2048 := ⟨1536 + j.val, by omega⟩

/-- the gradient in that input, row by row -/
theorem refs_apply (x0 : FVec Ideal S2048x2048 .f32) (x1 : FVec Ideal S2048x512 .f32) (x4 : FVec Ideal S2048 .f32) (r : Fin 2048) (j : Fin 512) :
    REFs x0 x1 x4 (ix2 r j)
      = Cert.Norm.rinv (fun k => x1 (ix2 r k)) (Ideal.ofBits .f32 1140850688#32) (Ideal.ofBits .f32 897988541#32)
        * (x0 (ix2 r (cols j)) * x4 (ix1 (cols j)) - x1 (ix2 r j) * Cert.Norm.rinv (fun k => x1 (ix2 r k)) (Ideal.ofBits .f32 1140850688#32) (Ideal.ofBits .f32 897988541#32)
            * Ideal.div (∑ k : Fin 512, x0 (ix2 r (cols k)) * x4 (ix1 (cols k)) * (x1 (ix2 r k) * Cert.Norm.rinv (fun k => x1 (ix2 r k)) (Ideal.ofBits .f32 1140850688#32) (Ideal.ofBits .f32 897988541#32)))
                (Ideal.ofBits .f32 1140850688#32)) := by
  obtain ⟨e, he, hl⟩ := Cert.Norm.lit_eps
  unfold REFs
  pointwise [Cert.MixnormBwdRefIdeal.Read.val_main_v74, Cert.MixnormBwdRefIdeal.Read.val_main_v73, Cert.MixnormBwdRefIdeal.Read.val_main_v72, Cert.MixnormBwdRefIdeal.Read.val_main_v71, Cert.MixnormBwdRefIdeal.Read.val_main_v70, Cert.MixnormBwdRefIdeal.Read.val_main_v69, Cert.MixnormBwdRefIdeal.Read.val_main_v68, Cert.MixnormBwdRefIdeal.Read.val_main_v67, Cert.MixnormBwdRefIdeal.Read.val_main_v66, Cert.MixnormBwdRefIdeal.Read.val_main_v65, Cert.MixnormBwdRefIdeal.Read.val_main_v64, Cert.MixnormBwdRefIdeal.Read.val_main_v63, Cert.MixnormBwdRefIdeal.Read.val_main_v62, Cert.MixnormBwdRefIdeal.Read.val_main_v61, Cert.MixnormBwdRefIdeal.Read.val_main_v59, Cert.MixnormBwdRefIdeal.Read.val_main_v58, Cert.MixnormBwdRefIdeal.Read.val_main_v54, Cert.MixnormBwdRefIdeal.Read.val_main_v48, Cert.MixnormBwdRefIdeal.Read.val_main_v34, Cert.MixnormBwdRefIdeal.Read.val_main_v45, Cert.MixnormBwdRefIdeal.Read.val_main_v44, Cert.MixnormBwdRefIdeal.Read.val_main_v43, Cert.MixnormBwdRefIdeal.Read.val_main_v42, Cert.MixnormBwdRefIdeal.Read.val_main_v41, Cert.MixnormBwdRefIdeal.Read.val_main_v40, Cert.MixnormBwdRefIdeal.Read.val_main_v39, Cert.MixnormBwdRefIdeal.Read.val_main_v38, Cert.MixnormBwdRefIdeal.Read.val_main_v37, Cert.MixnormBwdRefIdeal.Read.val_main_v36, Cert.MixnormBwdRefIdeal.Read.val_main_v35, Cert.MixnormBwdRefIdeal.Read.val_main_cst_7, Cert.MixnormBwdRefIdeal.Read.val_main_cst_8, Cert.MixnormBwdRefIdeal.Read.val_main_cst_9, Cert.MixnormBwdRefIdeal.Read.val_main_cst_10, Cert.MixnormBwdRefIdeal.Read.val_main_cst_13, Cert.MixnormBwdRefIdeal.Read.val_main_cst_14, Cert.MixnormBwdRefIdeal.Read.val_main_cst_15]
  rw [hl, Cert.Norm.lit_512, Cert.Norm.lit_half]
  simp only [Fin.sum_univ_one, Fin.isValue]
  refine Eq.trans ?_ (Cert.Norm.rms_dx (fun k : Fin 512 => x1 (ix2 r k)) (fun k => x0 (ix2 r (cols k))) (fun k => x4 (ix1 (cols k)))
    (x0 (ix2 r (cols j)) * x4 (ix1 (cols j))) (x1 (ix2 r j)) (by norm_num : (0 : ℝ) < 512) he).symm
  unfold Cert.Norm.rinv cols
  exact rfl

/-- what a point stores of it -/
theorem pays_apply (v X : FVec Ideal S256x512 .f32) (G : FVec Ideal S1x512 .f32) (p : Fin 256) (j : Fin 512) :
    k0_pay3 (F := Ideal) v (k0_pay15 v) X G (ix2 p j)
      = Cert.Norm.rinv (fun k => v (ix2 p k)) (Ideal.ofBits .f32 1140850688#32) (Ideal.ofBits .f32 897988541#32)
        * (X (ix2 p j) * G (ix2 0 j) - v (ix2 p j) * Cert.Norm.rinv (fun k => v (ix2 p k)) (Ideal.ofBits .f32 1140850688#32) (Ideal.ofBits .f32 897988541#32)
            * Ideal.div (∑ k : Fin 512, X (ix2 p k) * G (ix2 0 k) * (v (ix2 p k) * Cert.Norm.rinv (fun k => v (ix2 p k)) (Ideal.ofBits .f32 1140850688#32) (Ideal.ofBits .f32 897988541#32)))
                (Ideal.ofBits .f32 1140850688#32)) := by
  pointwise [k0_pay3, k0_pay2, k0_pay1, k0_pay15, Cert.Norm.rinv]

/-- what a point adds of the scale's gradient -/
theorem accs_apply (v X : FVec Ideal S256x512 .f32) (Z : FVec Ideal S1x512 .f32) (j : Fin 512) :
    k0_pay4 (F := Ideal) v (k0_pay15 v) X Z (ix2 0 j) = Z (ix2 0 j) + ∑ p : Fin 256, X (ix2 p j) * (v (ix2 p j) * Cert.Norm.rinv (fun k => v (ix2 p k)) (Ideal.ofBits .f32 1140850688#32) (Ideal.ofBits .f32 897988541#32)) := by
  pointwise [k0_pay4, k0_pay3, k0_pay2, k0_pay1, k0_pay15, Cert.Norm.rinv]

/-- one row's share of the scale's gradient -/
theorem prods_apply (x0 : FVec Ideal S2048x2048 .f32) (x1 : FVec Ideal S2048x512 .f32) (r : Fin 2048) (j : Fin 512) :
    Cert.MixnormBwdRefIdeal.Read.val_main_v55 (F := Ideal) x0 x1 (ix2 r j) = x0 (ix2 r (cols j)) * (x1 (ix2 r j) * Cert.Norm.rinv (fun k => x1 (ix2 r k)) (Ideal.ofBits .f32 1140850688#32) (Ideal.ofBits .f32 897988541#32)) := by
  pointwise [Cert.MixnormBwdRefIdeal.Read.val_main_v55, Cert.MixnormBwdRefIdeal.Read.val_main_v54, Cert.MixnormBwdRefIdeal.Read.val_main_v47, Cert.MixnormBwdRefIdeal.Read.val_main_v46, Cert.MixnormBwdRefIdeal.Read.val_main_v42, Cert.MixnormBwdRefIdeal.Read.val_main_v41, Cert.MixnormBwdRefIdeal.Read.val_main_v40, Cert.MixnormBwdRefIdeal.Read.val_main_v39, Cert.MixnormBwdRefIdeal.Read.val_main_v38, Cert.MixnormBwdRefIdeal.Read.val_main_v37, Cert.MixnormBwdRefIdeal.Read.val_main_v36, Cert.MixnormBwdRefIdeal.Read.val_main_v35, Cert.MixnormBwdRefIdeal.Read.val_main_cst_7, Cert.MixnormBwdRefIdeal.Read.val_main_cst_8, Cert.MixnormBwdRefIdeal.Read.val_main_cst_9]
  refine (mul_comm (G := EReal) _ _).trans ?_
  unfold Cert.Norm.rinv cols
  exact rfl
/-- the block each window is on at each point -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0] :=
  (by decide +kernel : ∀ t : Fin grid0.N, _)

/-- a point's row among all of them -/
def row (t : Fin cfg0.N) (p : Fin 256) : Fin 2048 :=
  ⟨t.val * 256 + p.val, by have := lt_of_lt_of_eq t.isLt N_0; omega⟩

theorem row_val (t : Fin cfg0.N) (p : Fin 256) : (row t p).val = t.val * 256 + p.val := rfl

theorem blk0 (c : Dev nD) (t : Fin cfg0.N) (p : Fin 256) (j : Fin 2048) :
    (show EReal from iblk m c 0 t (ix2 p j)) = m ((c : Thread nD τ).loc main_arg0) (ix2 (row t p) j) := by
  blk_point [iblk, V, idx t, row_val]

theorem blk4 (c : Dev nD) (t : Fin cfg0.N) (j : Fin 2048) :
    (show EReal from iblk m c 4 t (ix2 0 j)) = m ((c : Thread nD τ).loc main_arg4) (ix1 j) := by
  blk_point [iblk, V, idx t]

theorem blk1 (c : Dev nD) (t : Fin cfg0.N) (p : Fin 256) (j : Fin 1024) :
    (show EReal from iblk m c 1 t (ix2 p j)) = m ((c : Thread nD τ).loc main_arg1) (ix2 (row t p) j) := by
  blk_point [iblk, V, idx t, row_val]

/-- what a point stores of the gradient in input 1 is the reference's at the place it stores it -/
theorem pointa (c : Dev nD) (t : Fin cfg0.N) (X : FVec Ideal S256x1024 .f32) (G : FVec Ideal S1x1024 .f32)
    (hX : ∀ p j, X (ix2 p j) = (show EReal from iblk m c 0 t (ix2 p (cola j))))
    (hG : ∀ j, G (ix2 0 j) = (show EReal from iblk m c 4 t (ix2 0 (cola j)))) (p : Fin 256) (j : Fin 1024) :
    k0_pay9 (iblk m c 1 t) X G (ix2 p j) = REFa (m ((c : Thread nD τ).loc main_arg0)) (m ((c : Thread nD τ).loc main_arg1)) (m ((c : Thread nD τ).loc main_arg4)) (ix2 (row t p) j) := by
  have e1 : ∀ k : Fin 1024, (iblk m c 1 t : FVec Ideal S256x1024 .f32) (ix2 p k) = _ := blk1 m c t p
  rw [refa_apply, paya_apply]
  simp only [hX, hG, blk0, blk4, e1]

/-- and what it adds to the scale's is the reference's sum over its rows -/
theorem sharea (c : Dev nD) (t : Fin cfg0.N) (X : FVec Ideal S256x1024 .f32) (Z : FVec Ideal S1x1024 .f32)
    (hX : ∀ p j, X (ix2 p j) = (show EReal from iblk m c 0 t (ix2 p (cola j)))) (j : Fin 1024) :
    k0_pay10 (iblk m c 1 t) X Z (ix2 0 j)
      = Z (ix2 0 j) + ∑ p : Fin 256, Cert.MixnormBwdRefIdeal.Read.val_main_v98 (F := Ideal) (m ((c : Thread nD τ).loc main_arg0)) (m ((c : Thread nD τ).loc main_arg1)) (ix2 (row t p) j) := by
  have e1 : ∀ (p : Fin 256) (k : Fin 1024), (iblk m c 1 t : FVec Ideal S256x1024 .f32) (ix2 p k) = _ := blk1 m c t
  rw [acca_apply]
  simp only [hX, blk0, e1, proda_apply]

theorem blk2 (c : Dev nD) (t : Fin cfg0.N) (p : Fin 256) (j : Fin 512) :
    (show EReal from iblk m c 2 t (ix2 p j)) = m ((c : Thread nD τ).loc main_arg2) (ix2 (row t p) j) := by
  blk_point [iblk, V, idx t, row_val]

/-- what a point stores of the gradient in input 2 is the reference's at the place it stores it -/
theorem pointc (c : Dev nD) (t : Fin cfg0.N) (X : FVec Ideal S256x512 .f32) (G : FVec Ideal S1x512 .f32)
    (hX : ∀ p j, X (ix2 p j) = (show EReal from iblk m c 0 t (ix2 p (colc j))))
    (hG : ∀ j, G (ix2 0 j) = (show EReal from iblk m c 4 t (ix2 0 (colc j)))) (p : Fin 256) (j : Fin 512) :
    k0_pay13 (iblk m c 2 t) X G (ix2 p j) = REFc (m ((c : Thread nD τ).loc main_arg0)) (m ((c : Thread nD τ).loc main_arg2)) (m ((c : Thread nD τ).loc main_arg4)) (ix2 (row t p) j) := by
  have e1 : ∀ k : Fin 512, (iblk m c 2 t : FVec Ideal S256x512 .f32) (ix2 p k) = _ := blk2 m c t p
  rw [refc_apply, payc_apply]
  simp only [hX, hG, blk0, blk4, e1]

/-- and what it adds to the scale's is the reference's sum over its rows -/
theorem sharec (c : Dev nD) (t : Fin cfg0.N) (X : FVec Ideal S256x512 .f32) (Z : FVec Ideal S1x512 .f32)
    (hX : ∀ p j, X (ix2 p j) = (show EReal from iblk m c 0 t (ix2 p (colc j)))) (j : Fin 512) :
    k0_pay14 (iblk m c 2 t) X Z (ix2 0 j)
      = Z (ix2 0 j) + ∑ p : Fin 256, Cert.MixnormBwdRefIdeal.Read.val_main_v76 (F := Ideal) (m ((c : Thread nD τ).loc main_arg0)) (m ((c : Thread nD τ).loc main_arg2)) (ix2 (row t p) j) := by
  have e1 : ∀ (p : Fin 256) (k : Fin 512), (iblk m c 2 t : FVec Ideal S256x512 .f32) (ix2 p k) = _ := blk2 m c t
  rw [accc_apply]
  simp only [hX, blk0, e1, prodc_apply]

theorem blk3 (c : Dev nD) (t : Fin cfg0.N) (p : Fin 256) (j : Fin 512) :
    (show EReal from iblk m c 3 t (ix2 p j)) = m ((c : Thread nD τ).loc main_arg3) (ix2 (row t p) j) := by
  blk_point [iblk, V, idx t, row_val]

/-- what a point stores of the gradient in input 3 is the reference's at the place it stores it -/
theorem points (c : Dev nD) (t : Fin cfg0.N) (X : FVec Ideal S256x512 .f32) (G : FVec Ideal S1x512 .f32)
    (hX : ∀ p j, X (ix2 p j) = (show EReal from iblk m c 0 t (ix2 p (cols j))))
    (hG : ∀ j, G (ix2 0 j) = (show EReal from iblk m c 4 t (ix2 0 (cols j)))) (p : Fin 256) (j : Fin 512) :
    k0_pay3 (iblk m c 3 t) (k0_pay15 (iblk m c 3 t)) X G (ix2 p j) = REFs (m ((c : Thread nD τ).loc main_arg0)) (m ((c : Thread nD τ).loc main_arg3)) (m ((c : Thread nD τ).loc main_arg4)) (ix2 (row t p) j) := by
  have e1 : ∀ k : Fin 512, (iblk m c 3 t : FVec Ideal S256x512 .f32) (ix2 p k) = _ := blk3 m c t p
  rw [refs_apply, pays_apply]
  simp only [hX, hG, blk0, blk4, e1]

/-- and what it adds to the scale's is the reference's sum over its rows -/
theorem shares (c : Dev nD) (t : Fin cfg0.N) (X : FVec Ideal S256x512 .f32) (Z : FVec Ideal S1x512 .f32)
    (hX : ∀ p j, X (ix2 p j) = (show EReal from iblk m c 0 t (ix2 p (cols j)))) (j : Fin 512) :
    k0_pay4 (iblk m c 3 t) (k0_pay15 (iblk m c 3 t)) X Z (ix2 0 j)
      = Z (ix2 0 j) + ∑ p : Fin 256, Cert.MixnormBwdRefIdeal.Read.val_main_v55 (F := Ideal) (m ((c : Thread nD τ).loc main_arg0)) (m ((c : Thread nD τ).loc main_arg3)) (ix2 (row t p) j) := by
  have e1 : ∀ (p : Fin 256) (k : Fin 512), (iblk m c 3 t : FVec Ideal S256x512 .f32) (ix2 p k) = _ := blk3 m c t
  rw [accs_apply]
  simp only [hX, blk0, e1, prods_apply]

/-- one row's share of the gradient in the scale, column by column -/
def term (x0 : FVec Ideal S2048x2048 .f32) (x1 : FVec Ideal S2048x1024 .f32) (x2 x3 : FVec Ideal S2048x512 .f32) (r q : Fin 2048) : EReal :=
  if h : q.val < 1024 then Cert.MixnormBwdRefIdeal.Read.val_main_v98 (F := Ideal) x0 x1 (ix2 r (⟨q.val, h⟩ : Fin 1024))
  else if h' : q.val < 1536 then Cert.MixnormBwdRefIdeal.Read.val_main_v76 (F := Ideal) x0 x2 (ix2 r (⟨q.val - 1024, by omega⟩ : Fin 512))
  else Cert.MixnormBwdRefIdeal.Read.val_main_v55 (F := Ideal) x0 x3 (ix2 r (⟨q.val - 1536, by omega⟩ : Fin 512))

theorem term_a (x0 x1 x2 x3) (r : Fin 2048) (j : Fin 1024) (q : Fin 2048) (h : q.val = j.val) :
    term x0 x1 x2 x3 r q = Cert.MixnormBwdRefIdeal.Read.val_main_v98 (F := Ideal) x0 x1 (ix2 r j) := by
  obtain ⟨q, hq⟩ := q
  dsimp only at h
  subst h
  exact dif_pos j.isLt

theorem term_c (x0 x1 x2 x3) (r : Fin 2048) (j : Fin 512) (q : Fin 2048) (h : q.val = 1024 + j.val) :
    term x0 x1 x2 x3 r q = Cert.MixnormBwdRefIdeal.Read.val_main_v76 (F := Ideal) x0 x2 (ix2 r j) := by
  obtain ⟨q, hq⟩ := q
  dsimp only at h
  subst h
  unfold term
  rw [dif_neg (by dsimp only; omega), dif_pos (by dsimp only; omega)]
  exact congrArg (fun a => Cert.MixnormBwdRefIdeal.Read.val_main_v76 (F := Ideal) x0 x2 (ix2 r a)) (Fin.ext (Nat.add_sub_cancel_left ..))

theorem term_s (x0 x1 x2 x3) (r : Fin 2048) (j : Fin 512) (q : Fin 2048) (h : q.val = 1536 + j.val) :
    term x0 x1 x2 x3 r q = Cert.MixnormBwdRefIdeal.Read.val_main_v55 (F := Ideal) x0 x3 (ix2 r j) := by
  obtain ⟨q, hq⟩ := q
  dsimp only at h
  subst h
  unfold term
  rw [dif_neg (by dsimp only; omega), dif_neg (by dsimp only; omega)]
  exact congrArg (fun a => Cert.MixnormBwdRefIdeal.Read.val_main_v55 (F := Ideal) x0 x3 (ix2 r a)) (Fin.ext (Nat.add_sub_cancel_left ..))

/-- the gradient in the scale -/
abbrev REFG (x0 : FVec Ideal S2048x2048 .f32) (x1 : FVec Ideal S2048x1024 .f32) (x2 x3 : FVec Ideal S2048x512 .f32) : FVec Ideal S1x2048 .f32 :=
  Cert.MixnormBwdRefIdeal.Read.val_main_v120 (F := Ideal) x0 x1 x2 x3

theorem refg_apply (x0 x1 x2 x3) (q : Fin 2048) : REFG x0 x1 x2 x3 (ix2 0 q) = ∑ r : Fin 2048, term x0 x1 x2 x3 r q := by
  unfold REFG
  have hq := q.isLt
  pointwise [Cert.MixnormBwdRefIdeal.Read.val_main_v120, Cert.MixnormBwdRefIdeal.Read.val_main_v119, Cert.MixnormBwdRefIdeal.Read.val_main_v118, Cert.MixnormBwdRefIdeal.Read.val_main_v97, Cert.MixnormBwdRefIdeal.Read.val_main_v96, Cert.MixnormBwdRefIdeal.Read.val_main_v75, Cert.MixnormBwdRefIdeal.Read.val_main_v103, Cert.MixnormBwdRefIdeal.Read.val_main_v100, Cert.MixnormBwdRefIdeal.Read.val_main_v99, Cert.MixnormBwdRefIdeal.Read.val_main_v81, Cert.MixnormBwdRefIdeal.Read.val_main_v78, Cert.MixnormBwdRefIdeal.Read.val_main_v77, Cert.MixnormBwdRefIdeal.Read.val_main_v60, Cert.MixnormBwdRefIdeal.Read.val_main_v57, Cert.MixnormBwdRefIdeal.Read.val_main_v56, Cert.MixnormBwdRefIdeal.Read.val_main_cst_28, Cert.MixnormBwdRefIdeal.Read.val_main_cst_22, Cert.MixnormBwdRefIdeal.Read.val_main_cst_16, Cert.MixnormBwdRefIdeal.Read.val_main_cst_24, Cert.MixnormBwdRefIdeal.Read.val_main_cst_23, Cert.MixnormBwdRefIdeal.Read.val_main_cst_18, Cert.MixnormBwdRefIdeal.Read.val_main_cst_17, Cert.MixnormBwdRefIdeal.Read.val_main_cst_12, Cert.MixnormBwdRefIdeal.Read.val_main_cst_11]
  simp only [Fin.sum_univ_one, Fin.isValue]
  unfold term
  rcases (by omega : q.val < 1024 ∨ (1024 ≤ q.val ∧ q.val < 1536) ∨ 1536 ≤ q.val) with h | h | h
  · rw [dif_neg (by omega), dif_neg (by omega), dif_pos h, zero_add, zero_add]
    exact Finset.sum_congr rfl fun r _ => by rw [dif_pos h]
  · rw [dif_neg (by omega), dif_pos (by omega), dif_neg (by omega), zero_add, add_zero]
    exact Finset.sum_congr rfl fun r _ => by rw [dif_neg (by omega), dif_pos h.2]
  · rw [dif_pos (by omega), dif_neg (by omega), dif_neg (by omega), add_zero, add_zero]
    exact Finset.sum_congr rfl fun r _ => by rw [dif_neg (by omega), dif_neg (by omega)]

/-- what a point adds to the scale's gradient -/
def part (c : Dev nD) (t : Fin cfg0.N) (q : Fin 2048) : EReal :=
  ∑ p : Fin 256, term (m ((c : Thread nD τ).loc main_arg0)) (m ((c : Thread nD τ).loc main_arg1)) (m ((c : Thread nD τ).loc main_arg2)) (m ((c : Thread nD τ).loc main_arg3)) (row t p) q

/-- the same, at the columns of all the inputs -/
theorem addsa (c : Dev nD) (t : Fin cfg0.N) (X : FVec Ideal S256x1024 .f32) (Z : FVec Ideal S1x1024 .f32)
    (hX : ∀ p j, X (ix2 p j) = (show EReal from iblk m c 0 t (ix2 p (cola j)))) (x : S1x1024.Idx) (q : Fin 2048)
    (hq : q.val = 0 + (x 1).val) : k0_pay10 (iblk m c 1 t) X Z x = Z x + part m c t q := by
  obtain ⟨j, rfl⟩ : ∃ j : Fin 1024, x = ix2 0 j :=
    ⟨x 1, (Idealize.ShloMosaic.eq_ix2 x).trans (congrArg (fun a : Fin 1 => ix2 a (x 1)) (Subsingleton.elim _ _))⟩
  refine (sharea m c t X Z hX j).trans ?_
  unfold part
  refine congrArg (fun z : EReal => Z (ix2 0 j) + z) (Finset.sum_congr rfl fun p _ => ?_)
  exact (term_a _ _ _ _ _ j q (hq.trans (Nat.zero_add _))).symm

/-- the same, at the columns of all the inputs -/
theorem addsc (c : Dev nD) (t : Fin cfg0.N) (X : FVec Ideal S256x512 .f32) (Z : FVec Ideal S1x512 .f32)
    (hX : ∀ p j, X (ix2 p j) = (show EReal from iblk m c 0 t (ix2 p (colc j)))) (x : S1x512.Idx) (q : Fin 2048)
    (hq : q.val = 1024 + (x 1).val) : k0_pay14 (iblk m c 2 t) X Z x = Z x + part m c t q := by
  obtain ⟨j, rfl⟩ : ∃ j : Fin 512, x = ix2 0 j :=
    ⟨x 1, (Idealize.ShloMosaic.eq_ix2 x).trans (congrArg (fun a : Fin 1 => ix2 a (x 1)) (Subsingleton.elim _ _))⟩
  refine (sharec m c t X Z hX j).trans ?_
  unfold part
  refine congrArg (fun z : EReal => Z (ix2 0 j) + z) (Finset.sum_congr rfl fun p _ => ?_)
  exact (term_c _ _ _ _ _ j q hq).symm

/-- the same, at the columns of all the inputs -/
theorem addss (c : Dev nD) (t : Fin cfg0.N) (X : FVec Ideal S256x512 .f32) (Z : FVec Ideal S1x512 .f32)
    (hX : ∀ p j, X (ix2 p j) = (show EReal from iblk m c 0 t (ix2 p (cols j)))) (x : S1x512.Idx) (q : Fin 2048)
    (hq : q.val = 1536 + (x 1).val) : k0_pay4 (iblk m c 3 t) (k0_pay15 (iblk m c 3 t)) X Z x = Z x + part m c t q := by
  obtain ⟨j, rfl⟩ : ∃ j : Fin 512, x = ix2 0 j :=
    ⟨x 1, (Idealize.ShloMosaic.eq_ix2 x).trans (congrArg (fun a : Fin 1 => ix2 a (x 1)) (Subsingleton.elim _ _))⟩
  refine (shares m c t X Z hX j).trans ?_
  unfold part
  refine congrArg (fun z : EReal => Z (ix2 0 j) + z) (Finset.sum_congr rfl fun p _ => ?_)
  exact (term_s _ _ _ _ _ j q hq).symm

theorem zero6 (y) : (show EReal from k0_pay6 (F := Ideal) y) = 0 := by
  pointwise [k0_pay6]

/-- the first point starts the sum over the rows -/
theorem acc_first (c : Dev nD) (t : Fin cfg0.N) (h : t.val % 8 = 0) (j : S1x2048.Idx) :
    (outsAt0 m c t.val t.isLt).2.2.2.1 j = part m c t (j 1) := by
  rw [outsAt0_A m c t h]
  frame_out
  simp (disch := decide) only [↓ View.readCov_skip, ↓ View.readCov_fill]
  refine View.canon_append_of_piecesOf (Val := Elt Ideal) (e := .f32) (s := S1x2048) (fun j => part m c t (j 1)) [_] [_, _, _] ⟨fun x => ?_, fun x => ?_, fun x => ?_, trivial⟩ j ?_
  · exact (addss m c t _ _ (fun p j => View.ld_unit_apply_of _ _ _ _ _ _ (fun a => match a with | ⟨0, _⟩ => (Nat.zero_add _).symm | ⟨1, _⟩ => rfl)) x _ (Rect.idx_unit_val _ _ inb_S1x2048_S1x512_0_1536 x 1)).trans ((congrArg (fun z : EReal => z + _) (zero6 _)).trans (zero_add _))
  · exact (addsc m c t _ _ (fun p j => View.ld_unit_apply_of _ _ _ _ _ _ (fun a => match a with | ⟨0, _⟩ => (Nat.zero_add _).symm | ⟨1, _⟩ => rfl)) x _ (Rect.idx_unit_val _ _ inb_S1x2048_S1x512_0_1024 x 1)).trans ((congrArg (fun z : EReal => z + _) (zero6 _)).trans (zero_add _))
  · exact (addsa m c t _ _ (fun p j => View.ld_unit_apply_of _ _ _ _ _ _ (fun a => match a with | ⟨0, _⟩ => (Nat.zero_add _).symm | ⟨1, _⟩ => rfl)) x _ (Rect.idx_unit_val _ _ inb_S1x2048_S1x1024_0_0 x 1)).trans ((congrArg (fun z : EReal => z + _) (zero6 _)).trans (zero_add _))
  · have hj0 : (j 0).val < 1 := (j 0).isLt
    have hj1 : (j 1).val < 2048 := (j 1).isLt
    simp only [List.mem_cons, List.not_mem_nil, or_false, exists_eq_or_imp, exists_eq_left, Rect.mem_set_unit, Fin.forall_fin_two]
    simp only [Matrix.cons_val_zero, Matrix.cons_val_one]
    omega

/-- every other one adds its rows -/
theorem acc_step (c : Dev nD) (t : Fin cfg0.N) (h : ¬t.val % 8 = 0) (j : S1x2048.Idx) :
    (outsAt0 m c t.val t.isLt).2.2.2.1 j
      = (outsAt0 m c (t.val - 1) (lt_of_le_of_lt (Nat.sub_le _ _) t.isLt)).2.2.2.1 j + part m c t (j 1) := by
  rw [outsAt0_B m c t h]
  frame_out
  refine View.canon_append_of_piecesOf (Val := Elt Ideal) (e := .f32) (s := S1x2048) (fun j => (outsAt0 m c (t.val - 1) (lt_of_le_of_lt (Nat.sub_le _ _) t.isLt)).2.2.2.1 j + part m c t (j 1))
    [] [_, _, _] ⟨fun x => ?_, fun x => ?_, fun x => ?_, trivial⟩ j ?_
  · exact (addss m c t _ _ (fun p j => View.ld_unit_apply_of _ _ _ _ _ _ (fun a => match a with | ⟨0, _⟩ => (Nat.zero_add _).symm | ⟨1, _⟩ => rfl)) x _ (Rect.idx_unit_val _ _ inb_S1x2048_S1x512_0_1536 x 1))
  · exact (addsc m c t _ _ (fun p j => View.ld_unit_apply_of _ _ _ _ _ _ (fun a => match a with | ⟨0, _⟩ => (Nat.zero_add _).symm | ⟨1, _⟩ => rfl)) x _ (Rect.idx_unit_val _ _ inb_S1x2048_S1x512_0_1024 x 1))
  · exact (addsa m c t _ _ (fun p j => View.ld_unit_apply_of _ _ _ _ _ _ (fun a => match a with | ⟨0, _⟩ => (Nat.zero_add _).symm | ⟨1, _⟩ => rfl)) x _ (Rect.idx_unit_val _ _ inb_S1x2048_S1x1024_0_0 x 1))
  · have hj0 : (j 0).val < 1 := (j 0).isLt
    have hj1 : (j 1).val < 2048 := (j 1).isLt
    simp only [List.mem_cons, List.not_mem_nil, or_false, exists_eq_or_imp, exists_eq_left, Rect.mem_set_unit, Fin.forall_fin_two]
    simp only [Matrix.cons_val_zero, Matrix.cons_val_one]
    omega

/-- the sum after each point -/
theorem acc (c : Dev nD) (j : S1x2048.Idx) : ∀ (n : ℕ) (hn : n < cfg0.N),
    (outsAt0 m c n hn).2.2.2.1 j = ∑ p : Fin (n + 1), part m c ⟨p.val, lt_of_le_of_lt (Nat.le_of_lt_succ p.isLt) hn⟩ (j 1)
  | 0, hn => by
    rw [acc_first m c ⟨0, hn⟩ rfl j]; simp
  | n + 1, hn => by
    have h8 : n + 1 < 8 := lt_of_lt_of_eq hn N_0
    rw [Fin.sum_univ_castSucc]
    refine (acc_step m c ⟨n + 1, hn⟩ (by dsimp only; omega) j).trans ?_
    exact congrArg (fun z : EReal => z + part m c ⟨n + 1, hn⟩ (j 1)) (acc c j n (by omega))

/-- the eight blocks of rows, after the last point -/
theorem acc_last (c : Dev nD) (t : Fin cfg0.N) (h : t.val % 8 = 7) (j : S1x2048.Idx) :
    (outsAt0 m c t.val t.isLt).2.2.2.1 j = ∑ p : Fin 8, part m c ⟨p.val, lt_of_lt_of_eq p.isLt N_0.symm⟩ (j 1) := by
  obtain ⟨n, hn⟩ := t
  have hn' : n < 8 := lt_of_lt_of_eq hn N_0
  obtain rfl : n = 7 := by dsimp only at h; omega
  exact acc m c j 7 hn

/-- the gradient in the scale after the run -/
theorem finalG (c : Dev nD) : (dats m 0 c).arrAt 8 (cfgs 0).N = REFG (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht : t.val % 8 = 7 := (flush0_8 t).mp hf
  blk_simp
  rw [after0_8]
  refine (acc_last m c t ht y).trans ?_
  have hy : (((cfg0.win 8).blk t).view.emb y : S1x2048.Idx) = ix2 0 (y 1) := by
    blk_ext [idx t]
  refine Eq.trans ?_ (congrArg (REFG (m ((c : Thread nD τ).loc main_arg0)) (m ((c : Thread nD τ).loc main_arg1)) (m ((c : Thread nD τ).loc main_arg2)) (m ((c : Thread nD τ).loc main_arg3))) hy).symm
  refine Eq.trans ?_ (refg_apply _ _ _ _ (y 1)).symm
  rw [Fin.sum_univ_tiles 8 256 rfl]
  refine Finset.sum_congr rfl fun p _ => ?_
  unfold part row
  exact rfl

/-- the gradient in input 1 after the run -/
theorem finalA (c : Dev nD) : (dats m 0 c).arrAt 5 (cfgs 0).N = REFa (m ((c : Thread nD τ).loc main_arg0)) (m ((c : Thread nD τ).loc main_arg1)) (m ((c : Thread nD τ).loc main_arg4)) := by
  refine (dats m 0 c).arrAt_eq_of_covers 5 _ (by decide +kernel) fun t hf y => ?_
  blk_simp
  rw [after0_5]
  have hy : (((cfg0.win 5).blk t).view.emb y : S2048x1024.Idx) = ix2 (row t (y 0)) (y 1) := by
    blk_ext [idx t, row_val]
    exact rfl
  by_cases h : t.val % 8 = 0
  · rw [outsAt0_A m c t h]; frame_out
    exact (congrArg _ (Idealize.ShloMosaic.eq_ix2 y)).trans ((pointa m c t _ _ (fun p j => (View.ld_unit_apply_of _ _ _ _ _ _ (fun a => match a with | ⟨0, _⟩ => (Nat.zero_add _).symm | ⟨1, _⟩ => rfl))) (fun j => (View.ld_unit_apply_of _ _ _ _ _ _ (fun a => match a with | ⟨0, _⟩ => rfl | ⟨1, _⟩ => rfl))) (y 0) (y 1)).trans (congrArg _ hy.symm))
  · rw [outsAt0_B m c t h]; frame_out
    exact (congrArg _ (Idealize.ShloMosaic.eq_ix2 y)).trans ((pointa m c t _ _ (fun p j => (View.ld_unit_apply_of _ _ _ _ _ _ (fun a => match a with | ⟨0, _⟩ => (Nat.zero_add _).symm | ⟨1, _⟩ => rfl))) (fun j => (View.ld_unit_apply_of _ _ _ _ _ _ (fun a => match a with | ⟨0, _⟩ => rfl | ⟨1, _⟩ => rfl))) (y 0) (y 1)).trans (congrArg _ hy.symm))

/-- the gradient in input 2 after the run -/
theorem finalC (c : Dev nD) : (dats m 0 c).arrAt 6 (cfgs 0).N = REFc (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6]
  have hy : (((cfg0.win 6).blk t).view.emb y : S2048x512.Idx) = ix2 (row t (y 0)) (y 1) := by
    blk_ext [idx t, row_val]
    exact rfl
  by_cases h : t.val % 8 = 0
  · rw [outsAt0_A m c t h]; frame_out
    exact (congrArg _ (Idealize.ShloMosaic.eq_ix2 y)).trans ((pointc m c t _ _ (fun p j => (View.ld_unit_apply_of _ _ _ _ _ _ (fun a => match a with | ⟨0, _⟩ => (Nat.zero_add _).symm | ⟨1, _⟩ => rfl))) (fun j => (View.ld_unit_apply_of _ _ _ _ _ _ (fun a => match a with | ⟨0, _⟩ => rfl | ⟨1, _⟩ => rfl))) (y 0) (y 1)).trans (congrArg _ hy.symm))
  · rw [outsAt0_B m c t h]; frame_out
    exact (congrArg _ (Idealize.ShloMosaic.eq_ix2 y)).trans ((pointc m c t _ _ (fun p j => (View.ld_unit_apply_of _ _ _ _ _ _ (fun a => match a with | ⟨0, _⟩ => (Nat.zero_add _).symm | ⟨1, _⟩ => rfl))) (fun j => (View.ld_unit_apply_of _ _ _ _ _ _ (fun a => match a with | ⟨0, _⟩ => rfl | ⟨1, _⟩ => rfl))) (y 0) (y 1)).trans (congrArg _ hy.symm))

/-- the gradient in input 3 after the run -/
theorem finalS (c : Dev nD) : (dats m 0 c).arrAt 7 (cfgs 0).N = REFs (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7]
  have hy : (((cfg0.win 7).blk t).view.emb y : S2048x512.Idx) = ix2 (row t (y 0)) (y 1) := by
    blk_ext [idx t, row_val]
    exact rfl
  by_cases h : t.val % 8 = 0
  · rw [outsAt0_A m c t h]; frame_out
    exact (congrArg _ (Idealize.ShloMosaic.eq_ix2 y)).trans ((points m c t _ _ (fun p j => (View.ld_unit_apply_of _ _ _ _ _ _ (fun a => match a with | ⟨0, _⟩ => (Nat.zero_add _).symm | ⟨1, _⟩ => rfl))) (fun j => (View.ld_unit_apply_of _ _ _ _ _ _ (fun a => match a with | ⟨0, _⟩ => rfl | ⟨1, _⟩ => rfl))) (y 0) (y 1)).trans (congrArg _ hy.symm))
  · rw [outsAt0_B m c t h]; frame_out
    exact (congrArg _ (Idealize.ShloMosaic.eq_ix2 y)).trans ((points m c t _ _ (fun p j => (View.ld_unit_apply_of _ _ _ _ _ _ (fun a => match a with | ⟨0, _⟩ => (Nat.zero_add _).symm | ⟨1, _⟩ => rfl))) (fun j => (View.ld_unit_apply_of _ _ _ _ _ _ (fun a => match a with | ⟨0, _⟩ => rfl | ⟨1, _⟩ => rfl))) (y 0) (y 1)).trans (congrArg _ hy.symm))

end Cert.MixnormBwdIdeal.Grad

end
-- ==== Proof.MixnormBwdA.lean ====
module

public import proofs.«01_k».proof.Defs
public import proofs.«01_k».proof.Proof.MixnormBwdV
public import proofs.«01_k».proof.Proof.Gen.MixnormBwdRefIdeal.Run

@[expose] public section

set_option maxRecDepth 16384

noncomputable section

open Idealize.ShloMosaic Idealize.ShloMosaic.TcCoe Idealize.SL.Sem

namespace Cert.MixnormBwdIdeal.Grad

open Cert.MixnormBwdIdeal

theorem algebraic : Cert.algebraic_MixnormBwdIdeal_MixnormBwdRefIdeal (hMixnormBwdIdeal := Cert.MixnormBwdIdeal.Gen.facts)
    (hMixnormBwdRefIdeal := Cert.MixnormBwdRefIdeal.Gen.facts) := by
  pair_intro
  · run_from Cert.MixnormBwdIdeal.Gen.run_main m g
  · run_from Cert.MixnormBwdRefIdeal.Value.run m' g'
    · rw [Cert.MixnormBwdIdeal.Grad.finalA m c]
      refine (Cert.MixnormBwdRefIdeal.Read.val_main_v117_eq m' c).trans ?_
      rw [(hagree c).1, (hagree c).2.1, (hagree c).2.2.2.2]
    · rw [Cert.MixnormBwdIdeal.Grad.finalC m c]
      refine (Cert.MixnormBwdRefIdeal.Read.val_main_v95_eq m' c).trans ?_
      rw [(hagree c).1, (hagree c).2.2.1, (hagree c).2.2.2.2]
    · rw [Cert.MixnormBwdIdeal.Grad.finalS m c]
      refine (Cert.MixnormBwdRefIdeal.Read.val_main_v74_eq m' c).trans ?_
      rw [(hagree c).1, (hagree c).2.2.2.1, (hagree c).2.2.2.2]
    · rw [Cert.MixnormBwdIdeal.Grad.finalG m c]
      rfl

theorem frame_ref : Cert.quiescent_MixnormBwdRefIdeal (hMixnormBwdRefIdeal := Cert.MixnormBwdRefIdeal.Gen.facts) := by
  intro m ρ _
  exact (θ_run Cert.MixnormBwdRefIdeal.defs _ _).mono (fun r h => ⟨fun c => (h c).2.2.2.2, sem_eq_zero_of_no_sems (by decide) r.2⟩)
    (Cert.MixnormBwdRefIdeal.Value.run (F := Ideal) m ρ)

end Cert.MixnormBwdIdeal.Grad

end
-- ==== Proof.AttnBwdKvV.lean ====
module

public import proofs.«01_k».proof.Proof.Gen.AttnBwdKvIdeal.Frame
public import proofs.«01_k».proof.Proof.Gen.AttnBwdKvRefIdeal.Read
public import Idealize.ShloMosaic.Lib.Pipeline.ValueKit
public import Idealize.ShloMosaic.Lib.Pipeline.ReadBack
public import Idealize.ShloMosaic.Lib.Claim
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.AttnBwdKvIdeal.Grad

open Cert.AttnBwdKvIdeal Cert.AttnBwdKvIdeal.Gen

variable (m : (ℓ : Loc nD τ sig) → Buf (Elt Ideal) ℓ)

/-- the next block's row of an array, or nothing after the last block -/
def nx (x : FVec Ideal S4x2048x64 .f32) (g : Fin 4) (r : Fin 2048) (d : Fin 64) : EReal :=
  if h : r.val / 128 < 15 then x (ix3 g (⟨r.val + 128, by omega⟩ : Fin 2048) d) else 0

/-- the gradient arriving at one row from its own block and from the next -/
def both (x y : FVec Ideal S4x2048x64 .f32) (g : Fin 4) (r : Fin 2048) (d : Fin 64) : EReal := x (ix3 g r d) + nx y g r d

theorem both_def (x y : FVec Ideal S4x2048x64 .f32) (g : Fin 4) (r : Fin 2048) (d : Fin 64) : both x y g r d = x (ix3 g r d) + nx y g r d := rfl

theorem nx_pos (y : FVec Ideal S4x2048x64 .f32) (g : Fin 4) (r : Fin 2048) (d : Fin 64) (h : r.val / 128 < 15) (n : ℕ) (hn : n < 2048)
    (e : n = r.val + 128) : nx y g r d = y (ix3 g (⟨n, hn⟩ : Fin 2048) d) := by
  subst e
  exact dif_pos h

theorem nx_neg (y : FVec Ideal S4x2048x64 .f32) (g : Fin 4) (r : Fin 2048) (d : Fin 64) (h : ¬r.val / 128 < 15) : nx y g r d = 0 := dif_neg h

theorem both_eq (x y : FVec Ideal S4x2048x64 .f32) (g : Fin 4) (r : Fin 2048) (d : Fin 64) (q : Fin 2048)
    (hq : r.val / 128 < 15 → q.val = r.val + 128) :
    x (ix3 g r d) + (if r.val / 128 < 15 then y (ix3 g q d) else 0) = both x y g r d := by
  unfold both nx
  by_cases h : r.val / 128 < 15
  · rw [if_pos h, dif_pos h]
    have e : q = ⟨r.val + 128, by omega⟩ := Fin.ext (hq h)
    rw [e]
  · rw [if_neg h, dif_neg h]

open Cert.AttnBwdKvRefIdeal.Read in
theorem v84_apply (x4 x5 : FVec Ideal S4x2048x64 .f32) (g : Fin 4) (r : Fin 2048) (d : Fin 64) :
    val_main_v84 (F := Ideal) x4 x5 (ix3 g r d) = both x4 x5 g r d := by
  generalize hz : both x4 x5 g r d = z
  pointwise [val_main_v84, val_main_v83, val_main_v82, val_main_v50, val_main_v49, val_main_v48, val_main_v44, val_main_v47, val_main_v46, val_main_v43, val_main_v42, val_main_v41, val_main_v40, val_main_v39, val_main_v38, val_main_cst_8]
  refine Eq.trans ?_ hz
  refine Eq.trans ?_ (both_def x4 x5 g r d).symm
  refine congrArg (fun z : EReal => x4 (ix3 g r d) + z) ?_
  have hr : r.val % 128 < 128 := Nat.mod_lt _ (by omega)
  by_cases h : r.val / 128 < 15
  · have e : (1 + r.val / 128) * 128 + r.val % 128 = r.val + 128 := by omega
    refine Eq.trans ?_ (nx_pos x5 g r d h ((1 + r.val / 128) * 128 + r.val % 128) (by omega) e).symm
    exact (dif_pos ⟨h, hr⟩).trans (dif_pos hr)
  · exact (dif_neg (fun e => h e.1)).trans (nx_neg x5 g r d h).symm

open Cert.AttnBwdKvRefIdeal.Read in
theorem v57_apply (x2 x3 : FVec Ideal S4x2048x64 .f32) (g : Fin 4) (r : Fin 2048) (d : Fin 64) :
    val_main_v57 (F := Ideal) x2 x3 (ix3 r g d) = both x2 x3 g r d := by
  generalize hz : both x2 x3 g r d = z
  pointwise [val_main_v57, val_main_v56, val_main_v52, val_main_v55, val_main_v54, val_main_v51, val_main_v37, val_main_v36, val_main_v35, val_main_v34, val_main_v33, val_main_cst_9]
  refine Eq.trans ?_ hz
  refine Eq.trans ?_ (both_def x2 x3 g r d).symm
  refine congrArg (fun z : EReal => x2 (ix3 g r d) + z) ?_
  have hr : r.val % 128 < 128 := Nat.mod_lt _ (by omega)
  by_cases h : r.val / 128 < 15
  · have e : (1 + r.val / 128) * 128 + r.val % 128 = r.val + 128 := by omega
    refine Eq.trans ?_ (nx_pos x3 g r d h ((1 + r.val / 128) * 128 + r.val % 128) (by omega) e).symm
    exact (dif_pos ⟨h, hr⟩).trans (dif_pos hr)
  · exact (dif_neg (fun e => h e.1)).trans (nx_neg x3 g r d h).symm

/-- a head's column among all of them -/
def hc (g : Fin 4) (d : Fin 64) : Fin 256 := ⟨g.val * 64 + d.val, by omega⟩

open Cert.AttnBwdKvRefIdeal.Read in
theorem v1_apply (x0 : FVec Ideal S2048x256 .f32) (g : Fin 4) (r : Fin 2048) (d : Fin 64) :
    val_main_v1 (F := Ideal) x0 (ix3 r g d) = x0 (ix2 r (hc g d)) := by
  pointwise [val_main_v1]
  exact rfl

/-- the gradient through one head's norm, from the head's row, the gradient arriving and the gain -/
def form (v h g : Fin 64 → EReal) (d : Fin 64) : EReal :=
  Cert.Norm.rinv v (Ideal.ofBits .f32 1115684864#32) (Ideal.ofBits .f32 897988541#32)
    * (h d * g d - v d * Cert.Norm.rinv v (Ideal.ofBits .f32 1115684864#32) (Ideal.ofBits .f32 897988541#32)
        * Ideal.div (∑ k, h k * g k * (v k * Cert.Norm.rinv v (Ideal.ofBits .f32 1115684864#32) (Ideal.ofBits .f32 897988541#32)))
            (Ideal.ofBits .f32 1115684864#32))

/-- the gradient in the keys, over the kernel's argument arrays -/
abbrev REFk (x0 : FVec Ideal S2048x256 .f32) (x1 : FVec Ideal S64 .f32) (x2 x3 : FVec Ideal S4x2048x64 .f32) : FVec Ideal S4x2048x64 .bf16 :=
  Cert.AttnBwdKvRefIdeal.Read.val_main_v81 (F := Ideal) x0 x1 x2 x3

open Cert.AttnBwdKvRefIdeal.Read in
theorem refk_apply (x0 : FVec Ideal S2048x256 .f32) (x1 : FVec Ideal S64 .f32) (x2 x3 : FVec Ideal S4x2048x64 .f32) (g : Fin 4) (r : Fin 2048) (d : Fin 64) :
    REFk x0 x1 x2 x3 (ix3 g r d) = form (fun k => x0 (ix2 r (hc g k))) (fun k => both x2 x3 g r k) (fun k => x1 (ix1 k)) d := by
  obtain ⟨e, he, hl⟩ := Cert.Norm.lit_eps
  unfold REFk
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v62, val_main_v61, v57_apply, val_main_v15, val_main_v12, val_main_v11, val_main_v10, val_main_v9, val_main_v8, val_main_v7, val_main_v6, val_main_v5, val_main_v4, val_main_v3, val_main_v2, v1_apply, val_main_cst_0, val_main_cst_1, val_main_cst_2, val_main_cst_5, val_main_cst_3, val_main_cst_12, val_main_cst_13, val_main_cst_14]
  rw [hl, Cert.Norm.lit_64, Cert.Norm.lit_half]
  simp only [Fin.sum_univ_one, Fin.isValue]
  unfold form
  rw [hl, Cert.Norm.lit_64]
  exact (Cert.Norm.rms_dx (fun k : Fin 64 => x0 (ix2 r (hc g k))) (fun k => both x2 x3 g r k) (fun k => x1 (ix1 k))
    (both x2 x3 g r d * x1 (ix1 d)) (x0 (ix2 r (hc g d))) (by norm_num : (0 : ℝ) < 64) he).symm

open Cert.AttnBwdKvRefIdeal.Read in
theorem v58_apply (x0 : FVec Ideal S2048x256 .f32) (x2 x3 : FVec Ideal S4x2048x64 .f32) (g : Fin 4) (r : Fin 2048) (d : Fin 64) :
    val_main_v58 (F := Ideal) x0 x2 x3 (ix3 r g d) = both x2 x3 g r d * (x0 (ix2 r (hc g d)) * Cert.Norm.rinv (fun k => x0 (ix2 r (hc g k))) (Ideal.ofBits .f32 1115684864#32) (Ideal.ofBits .f32 897988541#32)) := by
  pointwise [val_main_v58, val_main_v14, val_main_v13, v57_apply, val_main_v9, val_main_v8, val_main_v7, val_main_v6, val_main_v5, val_main_v4, val_main_v3, val_main_v2, v1_apply, val_main_cst_0, val_main_cst_1, val_main_cst_2, Cert.Norm.rinv]
  exact mul_comm (G := EReal) _ _

abbrev REFg (x0 : FVec Ideal S2048x256 .f32) (x2 x3 : FVec Ideal S4x2048x64 .f32) : FVec Ideal S1x64 .f32 :=
  Cert.AttnBwdKvRefIdeal.Read.val_main_v85 (F := Ideal) x0 x2 x3

/-- a sum over the first two axes of an array of three -/
theorem sum01 {n0 n1 n2 : ℕ} (h : (⟨3, ![n0, n1, n2]⟩ : Shape).ReducesTo [0, 1] ⟨1, ![n2]⟩) (v : (⟨3, ![n0, n1, n2]⟩ : Shape).Idx → EReal) (z : EReal)
    (d : Fin n2) : Ideal.hostReduceAdd h v z (ix1 d) = z + ∑ a : Fin n0, ∑ b : Fin n1, v (ix3 a b d) := by
  refine congrArg (fun s : EReal => z + s) ?_
  refine (Finset.sum_filter_eq_sum_of_fiber _ (fun k : Fin n0 × Fin n1 => ix3 k.1 k.2 d)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  · simp only [Fintype.sum_prod_type]

open Cert.AttnBwdKvRefIdeal.Read in
theorem v60_apply (x0 : FVec Ideal S2048x256 .f32) (x2 x3 : FVec Ideal S4x2048x64 .f32) (d : Fin 64) :
    val_main_v60 (F := Ideal) x0 x2 x3 (ix3 0 0 d) = ∑ r : Fin 2048, ∑ g : Fin 4, val_main_v58 (F := Ideal) x0 x2 x3 (ix3 r g d) := by
  pointwise [val_main_v60, val_main_v59, val_main_cst_10]
  refine (sum01 _ _ _ d).trans (zero_add _)

open Cert.AttnBwdKvRefIdeal.Read in
theorem refg_apply (x0 : FVec Ideal S2048x256 .f32) (x2 x3 : FVec Ideal S4x2048x64 .f32) (d : Fin 64) :
    REFg x0 x2 x3 (ix2 0 d) = ∑ r : Fin 2048, ∑ g : Fin 4, val_main_v58 (F := Ideal) x0 x2 x3 (ix3 r g d) := by
  unfold REFg
  pointwise [val_main_v85, val_main_v63, val_main_cst_11]
  refine (sum01 _ _ _ d).trans ((zero_add _).trans ?_)
  simp only [Fin.sum_univ_one, Fin.isValue]
  exact v60_apply x0 x2 x3 d

theorem idx : ∀ t : Fin cfg0.N, win0_0.index t = ![0, t.val, 0] ∧ win0_1.index t = ![0, 0]
    ∧ win0_2.index t = ![0, t.val, 0] ∧ win0_3.index t = ![0, min (t.val + 1) 15, 0] ∧ win0_4.index t = ![0, t.val, 0] ∧ win0_5.index t = ![0, min (t.val + 1) 15, 0]
    ∧ win0_6.index t = ![0, t.val, 0] ∧ win0_7.index t = ![0, t.val, 0] ∧ win0_8.index t = ![0, 0] ∧ win0_9.index t = ![0, 0] :=
  (by decide +kernel : ∀ t : Fin grid0.N, _)

/-- whether another block follows, as the kernel's word says it -/
theorem word : ∀ t : Fin cfg0.N, Scalar.cmpi .slt (BitVec.ofNat 32 (grid0.coords t 0).val) 15#32 = BitVec.ofBool (decide (t.val < 15)) :=
  (by decide +kernel : ∀ t : Fin grid0.N, _)

theorem select_ofBool (b : Bool) (x y : EReal) : Scalar.select (BitVec.ofBool b) x y = if b = true then x else y := by
  cases b <;> rfl

/-- a point's row among all of them -/
def row (t : Fin cfg0.N) (p : Fin 128) : Fin 2048 :=
  ⟨t.val * 128 + p.val, by have := lt_of_lt_of_eq t.isLt N_0; omega⟩

theorem row_val (t : Fin cfg0.N) (p : Fin 128) : (row t p).val = t.val * 128 + p.val := rfl

/-- the row a point reads of the next block -/
def nrow (t : Fin cfg0.N) (p : Fin 128) : Fin 2048 := ⟨min (t.val + 1) 15 * 128 + p.val, by omega⟩

theorem nrow_val (t : Fin cfg0.N) (p : Fin 128) : (nrow t p).val = min (t.val + 1) 15 * 128 + p.val := rfl

theorem blk0 (c : Dev nD) (t : Fin cfg0.N) (g : Fin 4) (p : Fin 128) (d : Fin 64) :
    (show EReal from iblk m c 0 t (ix3 g p d)) = m ((c : Thread nD τ).loc main_arg0) (ix2 (row t p) (hc g d)) := by
  blk_point [iblk, V, idx t, row_val, hc]

theorem blk1 (c : Dev nD) (t : Fin cfg0.N) (d : Fin 64) :
    (show EReal from iblk m c 1 t (ix2 0 d)) = m ((c : Thread nD τ).loc main_arg1) (ix1 d) := by
  blk_point [iblk, V, idx t]

theorem blk2 (c : Dev nD) (t : Fin cfg0.N) (g : Fin 4) (p : Fin 128) (d : Fin 64) :
    (show EReal from iblk m c 2 t (ix3 g p d)) = m ((c : Thread nD τ).loc main_arg2) (ix3 g (row t p) d) := by
  blk_point [iblk, V, idx t, row_val]

theorem blk4 (c : Dev nD) (t : Fin cfg0.N) (g : Fin 4) (p : Fin 128) (d : Fin 64) :
    (show EReal from iblk m c 4 t (ix3 g p d)) = m ((c : Thread nD τ).loc main_arg4) (ix3 g (row t p) d) := by
  blk_point [iblk, V, idx t, row_val]

theorem blk3 (c : Dev nD) (t : Fin cfg0.N) (g : Fin 4) (p : Fin 128) (d : Fin 64) :
    (show EReal from iblk m c 3 t (ix3 g p d)) = m ((c : Thread nD τ).loc main_arg3) (ix3 g (nrow t p) d) := by
  blk_point [iblk, V, idx t, nrow_val]

theorem blk5 (c : Dev nD) (t : Fin cfg0.N) (g : Fin 4) (p : Fin 128) (d : Fin 64) :
    (show EReal from iblk m c 5 t (ix3 g p d)) = m ((c : Thread nD τ).loc main_arg5) (ix3 g (nrow t p) d) := by
  blk_point [iblk, V, idx t, nrow_val]

/-- a point's sum of the two gradients is the reference's -/
theorem sum_both (x y : FVec Ideal S4x2048x64 .f32) (t : Fin cfg0.N) (g : Fin 4) (p : Fin 128) (d : Fin 64) :
    x (ix3 g (row t p) d) + Scalar.select (Scalar.cmpi .slt (BitVec.ofNat 32 (grid0.coords t 0).val) 15#32) (y (ix3 g (nrow t p) d)) 0
      = both x y g (row t p) d := by
  have hp := p.isLt
  rw [word t, select_ofBool, ← both_eq x y g (row t p) d (nrow t p) (fun h => by rw [row_val] at h ⊢; rw [nrow_val]; omega)]
  have hd : (row t p).val / 128 = t.val := by rw [row_val]; omega
  simp only [hd, decide_eq_true_eq]

/-- what a point stores of one head's gradient, for each of the four heads -/
theorem pay11_apply (v : FVec Ideal S1x128x64 .f32) (D : FVec Ideal S128x64 .f32) (G : FVec Ideal S1x64 .f32) (p : Fin 128) (d : Fin 64) :
    k0_pay11 (F := Ideal) D (k0_pay6 v) (k0_pay7 v) (Scalar.ofBits .f32 0x358637BD#32) G (ix3 0 p d)
      = form (fun k => v (ix3 0 p k)) (fun k => D (ix2 p k)) (fun k => G (ix2 0 k)) d := by
  pointwise [k0_pay11, k0_pay9, k0_pay8, k0_pay7, k0_pay6, Cert.Norm.rinv, form]

theorem pay20_apply (v : FVec Ideal S1x128x64 .f32) (D : FVec Ideal S128x64 .f32) (G : FVec Ideal S1x64 .f32) (p : Fin 128) (d : Fin 64) :
    k0_pay20 (F := Ideal) D v G (ix3 0 p d)
      = form (fun k => v (ix3 0 p k)) (fun k => D (ix2 p k)) (fun k => G (ix2 0 k)) d := by
  pointwise [k0_pay20, k0_pay18, k0_pay17, k0_pay16, Cert.Norm.rinv, form]

theorem pay27_apply (v : FVec Ideal S1x128x64 .f32) (D : FVec Ideal S128x64 .f32) (G : FVec Ideal S1x64 .f32) (p : Fin 128) (d : Fin 64) :
    k0_pay27 (F := Ideal) D (k0_pay24 v) (k0_pay25 v) G (ix3 0 p d)
      = form (fun k => v (ix3 0 p k)) (fun k => D (ix2 p k)) (fun k => G (ix2 0 k)) d := by
  pointwise [k0_pay27, k0_pay25, k0_pay24, k0_pay23, Cert.Norm.rinv, form]

theorem pay34_apply (v : FVec Ideal S1x128x64 .f32) (D : FVec Ideal S128x64 .f32) (G : FVec Ideal S1x64 .f32) (p : Fin 128) (d : Fin 64) :
    k0_pay34 (F := Ideal) D v G (ix3 0 p d)
      = form (fun k => v (ix3 0 p k)) (fun k => D (ix2 p k)) (fun k => G (ix2 0 k)) d := by
  pointwise [k0_pay34, k0_pay33, k0_pay32, k0_pay31, Cert.Norm.rinv, form]

/-- one row's share of the gain's gradient -/
def gform (v h : Fin 64 → EReal) (d : Fin 64) : EReal :=
  h d * (v d * Cert.Norm.rinv v (Ideal.ofBits .f32 1115684864#32) (Ideal.ofBits .f32 897988541#32))

theorem pay10_apply (v : FVec Ideal S1x128x64 .f32) (D : FVec Ideal S128x64 .f32) (Z : FVec Ideal S1x64 .f32) (d : Fin 64) :
    k0_pay10 (F := Ideal) Z D (k0_pay6 v) (k0_pay7 v) (Scalar.ofBits .f32 0x358637BD#32) (ix2 0 d)
      = Z (ix2 0 d) + ∑ p : Fin 128, gform (fun k => v (ix3 0 p k)) (fun k => D (ix2 p k)) d := by
  pointwise [k0_pay10, k0_pay9, k0_pay8, k0_pay7, k0_pay6, Cert.Norm.rinv, gform]

theorem pay19_apply (v : FVec Ideal S1x128x64 .f32) (D : FVec Ideal S128x64 .f32) (Z : FVec Ideal S1x64 .f32) (d : Fin 64) :
    k0_pay19 (F := Ideal) Z D v (ix2 0 d)
      = Z (ix2 0 d) + ∑ p : Fin 128, gform (fun k => v (ix3 0 p k)) (fun k => D (ix2 p k)) d := by
  pointwise [k0_pay19, k0_pay18, k0_pay17, k0_pay16, Cert.Norm.rinv, gform]

theorem pay26_apply (w : BitVec 1) (v X Y : FVec Ideal S1x128x64 .f32) (Z : FVec Ideal S1x64 .f32) (d : Fin 64) :
    k0_pay26 (F := Ideal) w Z X Y v (ix2 0 d)
      = Z (ix2 0 d) + ∑ p : Fin 128, gform (fun k => v (ix3 0 p k)) (fun k => X (ix3 0 p k) + Scalar.select w (Y (ix3 0 p k)) 0) d := by
  pointwise [k0_pay26, k0_pay25, k0_pay24, k0_pay23, k0_pay21, Cert.Norm.rinv, gform]

theorem pay35_apply (v : FVec Ideal S1x128x64 .f32) (D : FVec Ideal S128x64 .f32) (Z V : FVec Ideal S1x64 .f32) (d : Fin 64) :
    k0_pay35 (F := Ideal) Z D v V (ix2 0 d)
      = V (ix2 0 d) + (Z (ix2 0 d) + ∑ p : Fin 128, gform (fun k => v (ix3 0 p k)) (fun k => D (ix2 p k)) d) := by
  pointwise [k0_pay35, k0_pay33, k0_pay32, k0_pay31, Cert.Norm.rinv, gform]

theorem pay4_apply (i : grid0.Coords) (X Y : FVec Ideal S1x128x64 .f32) (p : Fin 128) (d : Fin 64) :
    k0_pay4 (F := Ideal) i X Y (ix2 p d) = X (ix3 0 p d) + Scalar.select (Scalar.cmpi .slt (BitVec.ofNat 32 (i 0).val) 15#32) (Y (ix3 0 p d)) 0 := by
  pointwise [k0_pay4]

theorem pay12_apply (w : BitVec 1) (X Y : FVec Ideal S1x128x64 .f32) (p : Fin 128) (d : Fin 64) :
    k0_pay12 (F := Ideal) w X Y (ix2 p d) = X (ix3 0 p d) + Scalar.select w (Y (ix3 0 p d)) 0 := by
  pointwise [k0_pay12]

theorem pay21_apply (w : BitVec 1) (X Y : FVec Ideal S1x128x64 .f32) (p : Fin 128) (d : Fin 64) :
    k0_pay21 (F := Ideal) w X Y (ix2 p d) = X (ix3 0 p d) + Scalar.select w (Y (ix3 0 p d)) 0 := by
  pointwise [k0_pay21]

theorem pay28_apply (w : BitVec 1) (X Y : FVec Ideal S1x128x64 .f32) (p : Fin 128) (d : Fin 64) :
    k0_pay28 (F := Ideal) w X Y (ix2 p d) = X (ix3 0 p d) + Scalar.select w (Y (ix3 0 p d)) 0 := by
  pointwise [k0_pay28]

theorem pay5_apply (i : grid0.Coords) (X Y : FVec Ideal S1x128x64 .f32) (p : Fin 128) (d : Fin 64) :
    k0_pay5 (F := Ideal) i X Y (ix3 0 p d) = X (ix3 0 p d) + Scalar.select (Scalar.cmpi .slt (BitVec.ofNat 32 (i 0).val) 15#32) (Y (ix3 0 p d)) 0 := by
  pointwise [k0_pay5]

theorem pay15_apply (w : BitVec 1) (X Y : FVec Ideal S1x128x64 .f32) (p : Fin 128) (d : Fin 64) :
    k0_pay15 (F := Ideal) w (k0_pay13 X) (k0_pay14 Y) (ix3 0 p d) = X (ix3 0 p d) + Scalar.select w (Y (ix3 0 p d)) 0 := by
  pointwise [k0_pay15, k0_pay13, k0_pay14]

theorem pay22_apply (w : BitVec 1) (X Y : FVec Ideal S1x128x64 .f32) (p : Fin 128) (d : Fin 64) :
    k0_pay22 (F := Ideal) w X Y (ix3 0 p d) = X (ix3 0 p d) + Scalar.select w (Y (ix3 0 p d)) 0 := by
  pointwise [k0_pay22]

theorem pay30_apply (w : BitVec 1) (X Y : FVec Ideal S1x128x64 .f32) (p : Fin 128) (d : Fin 64) :
    k0_pay30 (F := Ideal) (k0_pay29 w X Y) (ix3 0 p d) = X (ix3 0 p d) + Scalar.select w (Y (ix3 0 p d)) 0 := by
  pointwise [k0_pay30, k0_pay29]

/-- what a point stores of one head of the gradient in the keys is the reference's at the place it stores it -/
theorem pointk (c : Dev nD) (t : Fin cfg0.N) (g : Fin 4) (v X Y : FVec Ideal S1x128x64 .f32) (D : FVec Ideal S128x64 .f32) (G : FVec Ideal S1x64 .f32)
    (hv : ∀ p d, v (ix3 0 p d) = (show EReal from iblk m c 0 t (ix3 g p d)))
    (hX : ∀ p d, X (ix3 0 p d) = (show EReal from iblk m c 2 t (ix3 g p d)))
    (hY : ∀ p d, Y (ix3 0 p d) = (show EReal from iblk m c 3 t (ix3 g p d)))
    (hG : ∀ d, G (ix2 0 d) = (show EReal from iblk m c 1 t (ix2 0 d)))
    (hD : ∀ p d, D (ix2 p d) = X (ix3 0 p d) + Scalar.select (Scalar.cmpi .slt (BitVec.ofNat 32 (grid0.coords t 0).val) 15#32) (Y (ix3 0 p d)) 0)
    (p : Fin 128) (d : Fin 64) :
    form (fun k => v (ix3 0 p k)) (fun k => D (ix2 p k)) (fun k => G (ix2 0 k)) d
      = REFk (m ((c : Thread nD τ).loc main_arg0)) (m ((c : Thread nD τ).loc main_arg1)) (m ((c : Thread nD τ).loc main_arg2)) (m ((c : Thread nD τ).loc main_arg3)) (ix3 g (row t p) d) := by
  rw [refk_apply]
  simp only [hD, hv, hX, hY, hG, blk0, blk1, blk2, blk3, sum_both]

/-- and of one head of the gradient in the values -/
theorem pointv (c : Dev nD) (t : Fin cfg0.N) (g : Fin 4) (X Y : FVec Ideal S1x128x64 .f32)
    (hX : ∀ p d, X (ix3 0 p d) = (show EReal from iblk m c 4 t (ix3 g p d)))
    (hY : ∀ p d, Y (ix3 0 p d) = (show EReal from iblk m c 5 t (ix3 g p d))) (p : Fin 128) (d : Fin 64) :
    X (ix3 0 p d) + Scalar.select (Scalar.cmpi .slt (BitVec.ofNat 32 (grid0.coords t 0).val) 15#32) (Y (ix3 0 p d)) 0
      = Cert.AttnBwdKvRefIdeal.Read.val_main_v84 (F := Ideal) (m ((c : Thread nD τ).loc main_arg4)) (m ((c : Thread nD τ).loc main_arg5)) (ix3 g (row t p) d) := by
  rw [v84_apply]
  simp only [hX, hY, blk4, blk5, sum_both]

/-- what a point adds of the gain's gradient for one head is the reference's over its rows -/
theorem pointg (c : Dev nD) (t : Fin cfg0.N) (g : Fin 4) (v X Y : FVec Ideal S1x128x64 .f32) (D : FVec Ideal S128x64 .f32)
    (hv : ∀ p d, v (ix3 0 p d) = (show EReal from iblk m c 0 t (ix3 g p d)))
    (hX : ∀ p d, X (ix3 0 p d) = (show EReal from iblk m c 2 t (ix3 g p d)))
    (hY : ∀ p d, Y (ix3 0 p d) = (show EReal from iblk m c 3 t (ix3 g p d)))
    (hD : ∀ p d, D (ix2 p d) = X (ix3 0 p d) + Scalar.select (Scalar.cmpi .slt (BitVec.ofNat 32 (grid0.coords t 0).val) 15#32) (Y (ix3 0 p d)) 0)
    (d : Fin 64) :
    ∑ p : Fin 128, gform (fun k => v (ix3 0 p k)) (fun k => D (ix2 p k)) d
      = ∑ p : Fin 128, Cert.AttnBwdKvRefIdeal.Read.val_main_v58 (F := Ideal) (m ((c : Thread nD τ).loc main_arg0)) (m ((c : Thread nD τ).loc main_arg2)) (m ((c : Thread nD τ).loc main_arg3)) (ix3 (row t p) g d) := by
  refine Finset.sum_congr rfl fun p _ => ?_
  rw [v58_apply]
  unfold gform
  simp only [hD, hv, hX, hY, blk0, blk2, blk3, sum_both]

/-- the same as the kernel's last sum has it -/
theorem pointh (c : Dev nD) (t : Fin cfg0.N) (g : Fin 4) (v X Y : FVec Ideal S1x128x64 .f32)
    (hv : ∀ p d, v (ix3 0 p d) = (show EReal from iblk m c 0 t (ix3 g p d)))
    (hX : ∀ p d, X (ix3 0 p d) = (show EReal from iblk m c 2 t (ix3 g p d)))
    (hY : ∀ p d, Y (ix3 0 p d) = (show EReal from iblk m c 3 t (ix3 g p d))) (d : Fin 64) :
    ∑ p : Fin 128, gform (fun k => v (ix3 0 p k))
        (fun k => X (ix3 0 p k) + Scalar.select (Scalar.cmpi .slt (BitVec.ofNat 32 (grid0.coords t 0).val) 15#32) (Y (ix3 0 p k)) 0) d
      = ∑ p : Fin 128, Cert.AttnBwdKvRefIdeal.Read.val_main_v58 (F := Ideal) (m ((c : Thread nD τ).loc main_arg0)) (m ((c : Thread nD τ).loc main_arg2)) (m ((c : Thread nD τ).loc main_arg3)) (ix3 (row t p) g d) := by
  refine Finset.sum_congr rfl fun p _ => ?_
  rw [v58_apply]
  unfold gform
  simp only [hv, hX, hY, blk0, blk2, blk3, sum_both]

theorem one0 (a : Fin 1) (n : ℕ) : n + a.val = n := by omega

theorem ix3_row {n k : ℕ} (x : (⟨3, ![1, n, k]⟩ : Shape).Idx) : x = ix3 0 (x 1) (x 2) := by
  funext a
  match a with
  | ⟨0, _⟩ => exact Subsingleton.elim (α := Fin 1) _ _
  | ⟨1, _⟩ => rfl
  | ⟨2, _⟩ => rfl

/-- the four heads' blocks are all of the block -/
theorem heads {a b d : ℕ} (ha : a < 4) (hb : b < 128) (hd : d < 64) :
    (3 ≤ a ∧ a < 3 + 1) ∧ (0 ≤ b ∧ b < 0 + 128) ∧ (0 ≤ d ∧ d < 0 + 64) ∧ True ∨
    (2 ≤ a ∧ a < 2 + 1) ∧ (0 ≤ b ∧ b < 0 + 128) ∧ (0 ≤ d ∧ d < 0 + 64) ∧ True ∨
    (1 ≤ a ∧ a < 1 + 1) ∧ (0 ≤ b ∧ b < 0 + 128) ∧ (0 ≤ d ∧ d < 0 + 64) ∧ True ∨
    (0 ≤ a ∧ a < 0 + 1) ∧ (0 ≤ b ∧ b < 0 + 128) ∧ (0 ≤ d ∧ d < 0 + 64) ∧ True := by
  have h : a = 3 ∨ a = 2 ∨ a = 1 ∨ a = 0 := by omega
  rcases h with e | e | e | e
  · exact Or.inl ⟨by omega, by omega, by omega, trivial⟩
  · exact Or.inr (Or.inl ⟨by omega, by omega, by omega, trivial⟩)
  · exact Or.inr (Or.inr (Or.inl ⟨by omega, by omega, by omega, trivial⟩))
  · exact Or.inr (Or.inr (Or.inr ⟨by omega, by omega, by omega, trivial⟩))

/-- the gradient in the keys at a point's block -/
def GK (c : Dev nD) (t : Fin cfg0.N) (j : S4x128x64.Idx) : EReal :=
  REFk (m ((c : Thread nD τ).loc main_arg0)) (m ((c : Thread nD τ).loc main_arg1)) (m ((c : Thread nD τ).loc main_arg2)) (m ((c : Thread nD τ).loc main_arg3)) (ix3 (j 0) (row t (j 1)) (j 2))

theorem gK_of (c : Dev nD) (t : Fin cfg0.N) (g : Fin 4) (p : Fin 128) (d : Fin 64) (j : S4x128x64.Idx) (h0 : (j 0).val = g.val) (h1 : (j 1).val = p.val) (h2 : (j 2).val = d.val) :
    GK m c t j = REFk (m ((c : Thread nD τ).loc main_arg0)) (m ((c : Thread nD τ).loc main_arg1)) (m ((c : Thread nD τ).loc main_arg2)) (m ((c : Thread nD τ).loc main_arg3)) (ix3 g (row t p) d) := by
  have e0 : j 0 = g := Fin.ext h0
  have e1 : j 1 = p := Fin.ext h1
  have e2 : j 2 = d := Fin.ext h2
  unfold GK
  rw [e0, e1, e2]

/-- the gradient in the values at a point's block -/
def GV (c : Dev nD) (t : Fin cfg0.N) (j : S4x128x64.Idx) : EReal :=
  Cert.AttnBwdKvRefIdeal.Read.val_main_v84 (F := Ideal) (m ((c : Thread nD τ).loc main_arg4)) (m ((c : Thread nD τ).loc main_arg5)) (ix3 (j 0) (row t (j 1)) (j 2))

theorem gV_of (c : Dev nD) (t : Fin cfg0.N) (g : Fin 4) (p : Fin 128) (d : Fin 64) (j : S4x128x64.Idx) (h0 : (j 0).val = g.val) (h1 : (j 1).val = p.val) (h2 : (j 2).val = d.val) :
    GV m c t j = Cert.AttnBwdKvRefIdeal.Read.val_main_v84 (F := Ideal) (m ((c : Thread nD τ).loc main_arg4)) (m ((c : Thread nD τ).loc main_arg5)) (ix3 g (row t p) d) := by
  have e0 : j 0 = g := Fin.ext h0
  have e1 : j 1 = p := Fin.ext h1
  have e2 : j 2 = d := Fin.ext h2
  unfold GV
  rw [e0, e1, e2]

theorem piecesK (c : Dev nD) (t : Fin cfg0.N) (j : S4x128x64.Idx) : (outsAt0 m c t.val t.isLt).1 j = GK m c t j := by
  by_cases h : t.val % 16 = 0
  · rw [outsAt0_A m c t h]; frame_out
    refine View.canon_append_of_piecesOf (Val := Elt Ideal) (e := .bf16) (s := S4x128x64) (fun j => GK m c t j) [] [_, _, _, _] ⟨fun x => ?_, fun x => ?_, fun x => ?_, fun x => ?_, trivial⟩ j ?_
    · refine (congrArg _ (ix3_row x)).trans ((pay34_apply _ _ _ (x 1) (x 2)).trans ((pointk m c t 3 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay28_apply _ _ _) (x 1) (x 2)).trans (gK_of m c t 3 (x 1) (x 2) _ ((Rect.idx_unit_val _ _ inb_S4x128x64_S1x128x64_3_0_0 x 0).trans (one0 (x 0) 3)) ((Rect.idx_unit_val _ _ inb_S4x128x64_S1x128x64_3_0_0 x 1).trans (Nat.zero_add _)) ((Rect.idx_unit_val _ _ inb_S4x128x64_S1x128x64_3_0_0 x 2).trans (Nat.zero_add _))).symm))
    · refine (congrArg _ (ix3_row x)).trans ((pay27_apply _ _ _ (x 1) (x 2)).trans ((pointk m c t 2 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay21_apply _ _ _) (x 1) (x 2)).trans (gK_of m c t 2 (x 1) (x 2) _ ((Rect.idx_unit_val _ _ inb_S4x128x64_S1x128x64_2_0_0 x 0).trans (one0 (x 0) 2)) ((Rect.idx_unit_val _ _ inb_S4x128x64_S1x128x64_2_0_0 x 1).trans (Nat.zero_add _)) ((Rect.idx_unit_val _ _ inb_S4x128x64_S1x128x64_2_0_0 x 2).trans (Nat.zero_add _))).symm))
    · refine (congrArg _ (ix3_row x)).trans ((pay20_apply _ _ _ (x 1) (x 2)).trans ((pointk m c t 1 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay12_apply _ _ _) (x 1) (x 2)).trans (gK_of m c t 1 (x 1) (x 2) _ ((Rect.idx_unit_val _ _ inb_S4x128x64_S1x128x64_1_0_0 x 0).trans (one0 (x 0) 1)) ((Rect.idx_unit_val _ _ inb_S4x128x64_S1x128x64_1_0_0 x 1).trans (Nat.zero_add _)) ((Rect.idx_unit_val _ _ inb_S4x128x64_S1x128x64_1_0_0 x 2).trans (Nat.zero_add _))).symm))
    · refine (congrArg _ (ix3_row x)).trans ((pay11_apply _ _ _ (x 1) (x 2)).trans ((pointk m c t 0 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay4_apply _ _ _) (x 1) (x 2)).trans (gK_of m c t 0 (x 1) (x 2) _ ((Rect.idx_unit_val _ _ inb_S4x128x64_S1x128x64_0_0_0 x 0).trans (one0 (x 0) 0)) ((Rect.idx_unit_val _ _ inb_S4x128x64_S1x128x64_0_0_0 x 1).trans (Nat.zero_add _)) ((Rect.idx_unit_val _ _ inb_S4x128x64_S1x128x64_0_0_0 x 2).trans (Nat.zero_add _))).symm))
    · have hj0 : (j 0).val < 4 := (j 0).isLt
      have hj1 : (j 1).val < 128 := (j 1).isLt
      have hj2 : (j 2).val < 64 := (j 2).isLt
      simp only [List.mem_cons, List.not_mem_nil, or_false, exists_eq_or_imp, exists_eq_left, Rect.mem_set_unit, Fin.forall_fin_succ, Fin.forall_fin_zero]
      simp only [Matrix.cons_val_zero, Matrix.cons_val_one, Matrix.cons_val, Fin.isValue]
      simp only [Fin.isValue, Fin.succ_zero_eq_one, Fin.succ_one_eq_two, Matrix.cons_val_one, Matrix.cons_val]
      exact heads hj0 hj1 hj2
  · rw [outsAt0_B m c t h]; frame_out
    refine View.canon_append_of_piecesOf (Val := Elt Ideal) (e := .bf16) (s := S4x128x64) (fun j => GK m c t j) [] [_, _, _, _] ⟨fun x => ?_, fun x => ?_, fun x => ?_, fun x => ?_, trivial⟩ j ?_
    · refine (congrArg _ (ix3_row x)).trans ((pay34_apply _ _ _ (x 1) (x 2)).trans ((pointk m c t 3 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay28_apply _ _ _) (x 1) (x 2)).trans (gK_of m c t 3 (x 1) (x 2) _ ((Rect.idx_unit_val _ _ inb_S4x128x64_S1x128x64_3_0_0 x 0).trans (one0 (x 0) 3)) ((Rect.idx_unit_val _ _ inb_S4x128x64_S1x128x64_3_0_0 x 1).trans (Nat.zero_add _)) ((Rect.idx_unit_val _ _ inb_S4x128x64_S1x128x64_3_0_0 x 2).trans (Nat.zero_add _))).symm))
    · refine (congrArg _ (ix3_row x)).trans ((pay27_apply _ _ _ (x 1) (x 2)).trans ((pointk m c t 2 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay21_apply _ _ _) (x 1) (x 2)).trans (gK_of m c t 2 (x 1) (x 2) _ ((Rect.idx_unit_val _ _ inb_S4x128x64_S1x128x64_2_0_0 x 0).trans (one0 (x 0) 2)) ((Rect.idx_unit_val _ _ inb_S4x128x64_S1x128x64_2_0_0 x 1).trans (Nat.zero_add _)) ((Rect.idx_unit_val _ _ inb_S4x128x64_S1x128x64_2_0_0 x 2).trans (Nat.zero_add _))).symm))
    · refine (congrArg _ (ix3_row x)).trans ((pay20_apply _ _ _ (x 1) (x 2)).trans ((pointk m c t 1 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay12_apply _ _ _) (x 1) (x 2)).trans (gK_of m c t 1 (x 1) (x 2) _ ((Rect.idx_unit_val _ _ inb_S4x128x64_S1x128x64_1_0_0 x 0).trans (one0 (x 0) 1)) ((Rect.idx_unit_val _ _ inb_S4x128x64_S1x128x64_1_0_0 x 1).trans (Nat.zero_add _)) ((Rect.idx_unit_val _ _ inb_S4x128x64_S1x128x64_1_0_0 x 2).trans (Nat.zero_add _))).symm))
    · refine (congrArg _ (ix3_row x)).trans ((pay11_apply _ _ _ (x 1) (x 2)).trans ((pointk m c t 0 _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun d => rfl) (pay4_apply _ _ _) (x 1) (x 2)).trans (gK_of m c t 0 (x 1) (x 2) _ ((Rect.idx_unit_val _ _ inb_S4x128x64_S1x128x64_0_0_0 x 0).trans (one0 (x 0) 0)) ((Rect.idx_unit_val _ _ inb_S4x128x64_S1x128x64_0_0_0 x 1).trans (Nat.zero_add _)) ((Rect.idx_unit_val _ _ inb_S4x128x64_S1x128x64_0_0_0 x 2).trans (Nat.zero_add _))).symm))
    · have hj0 : (j 0).val < 4 := (j 0).isLt
      have hj1 : (j 1).val < 128 := (j 1).isLt
      have hj2 : (j 2).val < 64 := (j 2).isLt
      simp only [List.mem_cons, List.not_mem_nil, or_false, exists_eq_or_imp, exists_eq_left, Rect.mem_set_unit, Fin.forall_fin_succ, Fin.forall_fin_zero]
      simp only [Matrix.cons_val_zero, Matrix.cons_val_one, Matrix.cons_val, Fin.isValue]
      simp only [Fin.isValue, Fin.succ_zero_eq_one, Fin.succ_one_eq_two, Matrix.cons_val_one, Matrix.cons_val]
      exact heads hj0 hj1 hj2

theorem piecesV (c : Dev nD) (t : Fin cfg0.N) (j : S4x128x64.Idx) : (outsAt0 m c t.val t.isLt).2.1 j = GV m c t j := by
  by_cases h : t.val % 16 = 0
  · rw [outsAt0_A m c t h]; frame_out
    refine View.canon_append_of_piecesOf (Val := Elt Ideal) (e := .bf16) (s := S4x128x64) (fun j => GV m c t j) [] [_, _, _, _] ⟨fun x => ?_, fun x => ?_, fun x => ?_, fun x => ?_, trivial⟩ j ?_
    · refine (congrArg _ (ix3_row x)).trans ((pay30_apply _ _ _ (x 1) (x 2)).trans ((pointv m c t 3 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 3 (x 1) (x 2) _ ((Rect.idx_unit_val _ _ inb_S4x128x64_S1x128x64_3_0_0 x 0).trans (one0 (x 0) 3)) ((Rect.idx_unit_val _ _ inb_S4x128x64_S1x128x64_3_0_0 x 1).trans (Nat.zero_add _)) ((Rect.idx_unit_val _ _ inb_S4x128x64_S1x128x64_3_0_0 x 2).trans (Nat.zero_add _))).symm))
    · refine (congrArg _ (ix3_row x)).trans ((pay22_apply _ _ _ (x 1) (x 2)).trans ((pointv m c t 2 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 2 (x 1) (x 2) _ ((Rect.idx_unit_val _ _ inb_S4x128x64_S1x128x64_2_0_0 x 0).trans (one0 (x 0) 2)) ((Rect.idx_unit_val _ _ inb_S4x128x64_S1x128x64_2_0_0 x 1).trans (Nat.zero_add _)) ((Rect.idx_unit_val _ _ inb_S4x128x64_S1x128x64_2_0_0 x 2).trans (Nat.zero_add _))).symm))
    · refine (congrArg _ (ix3_row x)).trans ((pay15_apply _ _ _ (x 1) (x 2)).trans ((pointv m c t 1 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 1 (x 1) (x 2) _ ((Rect.idx_unit_val _ _ inb_S4x128x64_S1x128x64_1_0_0 x 0).trans (one0 (x 0) 1)) ((Rect.idx_unit_val _ _ inb_S4x128x64_S1x128x64_1_0_0 x 1).trans (Nat.zero_add _)) ((Rect.idx_unit_val _ _ inb_S4x128x64_S1x128x64_1_0_0 x 2).trans (Nat.zero_add _))).symm))
    · refine (congrArg _ (ix3_row x)).trans ((pay5_apply _ _ _ (x 1) (x 2)).trans ((pointv m c t 0 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 0 (x 1) (x 2) _ ((Rect.idx_unit_val _ _ inb_S4x128x64_S1x128x64_0_0_0 x 0).trans (one0 (x 0) 0)) ((Rect.idx_unit_val _ _ inb_S4x128x64_S1x128x64_0_0_0 x 1).trans (Nat.zero_add _)) ((Rect.idx_unit_val _ _ inb_S4x128x64_S1x128x64_0_0_0 x 2).trans (Nat.zero_add _))).symm))
    · have hj0 : (j 0).val < 4 := (j 0).isLt
      have hj1 : (j 1).val < 128 := (j 1).isLt
      have hj2 : (j 2).val < 64 := (j 2).isLt
      simp only [List.mem_cons, List.not_mem_nil, or_false, exists_eq_or_imp, exists_eq_left, Rect.mem_set_unit, Fin.forall_fin_succ, Fin.forall_fin_zero]
      simp only [Matrix.cons_val_zero, Matrix.cons_val_one, Matrix.cons_val, Fin.isValue]
      simp only [Fin.isValue, Fin.succ_zero_eq_one, Fin.succ_one_eq_two, Matrix.cons_val_one, Matrix.cons_val]
      exact heads hj0 hj1 hj2
  · rw [outsAt0_B m c t h]; frame_out
    refine View.canon_append_of_piecesOf (Val := Elt Ideal) (e := .bf16) (s := S4x128x64) (fun j => GV m c t j) [] [_, _, _, _] ⟨fun x => ?_, fun x => ?_, fun x => ?_, fun x => ?_, trivial⟩ j ?_
    · refine (congrArg _ (ix3_row x)).trans ((pay30_apply _ _ _ (x 1) (x 2)).trans ((pointv m c t 3 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 3 (x 1) (x 2) _ ((Rect.idx_unit_val _ _ inb_S4x128x64_S1x128x64_3_0_0 x 0).trans (one0 (x 0) 3)) ((Rect.idx_unit_val _ _ inb_S4x128x64_S1x128x64_3_0_0 x 1).trans (Nat.zero_add _)) ((Rect.idx_unit_val _ _ inb_S4x128x64_S1x128x64_3_0_0 x 2).trans (Nat.zero_add _))).symm))
    · refine (congrArg _ (ix3_row x)).trans ((pay22_apply _ _ _ (x 1) (x 2)).trans ((pointv m c t 2 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 2 (x 1) (x 2) _ ((Rect.idx_unit_val _ _ inb_S4x128x64_S1x128x64_2_0_0 x 0).trans (one0 (x 0) 2)) ((Rect.idx_unit_val _ _ inb_S4x128x64_S1x128x64_2_0_0 x 1).trans (Nat.zero_add _)) ((Rect.idx_unit_val _ _ inb_S4x128x64_S1x128x64_2_0_0 x 2).trans (Nat.zero_add _))).symm))
    · refine (congrArg _ (ix3_row x)).trans ((pay15_apply _ _ _ (x 1) (x 2)).trans ((pointv m c t 1 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 1 (x 1) (x 2) _ ((Rect.idx_unit_val _ _ inb_S4x128x64_S1x128x64_1_0_0 x 0).trans (one0 (x 0) 1)) ((Rect.idx_unit_val _ _ inb_S4x128x64_S1x128x64_1_0_0 x 1).trans (Nat.zero_add _)) ((Rect.idx_unit_val _ _ inb_S4x128x64_S1x128x64_1_0_0 x 2).trans (Nat.zero_add _))).symm))
    · refine (congrArg _ (ix3_row x)).trans ((pay5_apply _ _ _ (x 1) (x 2)).trans ((pointv m c t 0 _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (x 1) (x 2)).trans (gV_of m c t 0 (x 1) (x 2) _ ((Rect.idx_unit_val _ _ inb_S4x128x64_S1x128x64_0_0_0 x 0).trans (one0 (x 0) 0)) ((Rect.idx_unit_val _ _ inb_S4x128x64_S1x128x64_0_0_0 x 1).trans (Nat.zero_add _)) ((Rect.idx_unit_val _ _ inb_S4x128x64_S1x128x64_0_0_0 x 2).trans (Nat.zero_add _))).symm))
    · have hj0 : (j 0).val < 4 := (j 0).isLt
      have hj1 : (j 1).val < 128 := (j 1).isLt
      have hj2 : (j 2).val < 64 := (j 2).isLt
      simp only [List.mem_cons, List.not_mem_nil, or_false, exists_eq_or_imp, exists_eq_left, Rect.mem_set_unit, Fin.forall_fin_succ, Fin.forall_fin_zero]
      simp only [Matrix.cons_val_zero, Matrix.cons_val_one, Matrix.cons_val, Fin.isValue]
      simp only [Fin.isValue, Fin.succ_zero_eq_one, Fin.succ_one_eq_two, Matrix.cons_val_one, Matrix.cons_val]
      exact heads hj0 hj1 hj2

/-- the gradient in the keys after the run -/
theorem finalK (c : Dev nD) : (dats m 0 c).arrAt 6 (cfgs 0).N = REFk (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hy : (((cfg0.win 6).blk t).view.emb y : S4x2048x64.Idx) = ix3 (y 0) (row t (y 1)) (y 2) := by
    blk_ext [idx t, row]
  exact (piecesK m c t y).trans (congrArg (REFk (m ((c : Thread nD τ).loc main_arg0)) (m ((c : Thread nD τ).loc main_arg1)) (m ((c : Thread nD τ).loc main_arg2)) (m ((c : Thread nD τ).loc main_arg3))) hy.symm)

/-- the gradient in the values after the run -/
theorem finalV (c : Dev nD) : (dats m 0 c).arrAt 7 (cfgs 0).N = Cert.AttnBwdKvRefIdeal.Read.val_main_v84 (F := Ideal) (m ((c : Thread nD τ).loc main_arg4)) (m ((c : Thread nD τ).loc main_arg5)) := by
  refine (dats m 0 c).arrAt_eq_of_covers 7 _ (by decide +kernel) fun t hf y => ?_
  blk_simp
  rw [after0_7]
  have hy : (((cfg0.win 7).blk t).view.emb y : S4x2048x64.Idx) = ix3 (y 0) (row t (y 1)) (y 2) := by
    blk_ext [idx t, row]
  exact (piecesV m c t y).trans (congrArg (Cert.AttnBwdKvRefIdeal.Read.val_main_v84 (F := Ideal) (m ((c : Thread nD τ).loc main_arg4)) (m ((c : Thread nD τ).loc main_arg5))) hy.symm)

/-- what a point's rows add to the gain's gradient for one head -/
def share (c : Dev nD) (t : Fin cfg0.N) (g : Fin 4) (d : Fin 64) : EReal :=
  ∑ p : Fin 128, Cert.AttnBwdKvRefIdeal.Read.val_main_v58 (F := Ideal) (m ((c : Thread nD τ).loc main_arg0)) (m ((c : Thread nD τ).loc main_arg2)) (m ((c : Thread nD τ).loc main_arg3)) (ix3 (row t p) g d)

/-- what a point's rows add to the gain's gradient -/
def part (c : Dev nD) (t : Fin cfg0.N) (d : Fin 64) : EReal :=
  share m c t 0 d + share m c t 1 d + share m c t 2 d + share m c t 3 d

theorem adds (c : Dev nD) (t : Fin cfg0.N) (v0 X0 Y0 v1 X1 Y1 v2 X2 Y2 v3 X3 Y3 : FVec Ideal S1x128x64 .f32) (Z V : FVec Ideal S1x64 .f32)
    (hv0 : ∀ p d, v0 (ix3 0 p d) = (show EReal from iblk m c 0 t (ix3 0 p d)))
    (hX0 : ∀ p d, X0 (ix3 0 p d) = (show EReal from iblk m c 2 t (ix3 0 p d)))
    (hY0 : ∀ p d, Y0 (ix3 0 p d) = (show EReal from iblk m c 3 t (ix3 0 p d)))
    (hv1 : ∀ p d, v1 (ix3 0 p d) = (show EReal from iblk m c 0 t (ix3 1 p d)))
    (hX1 : ∀ p d, X1 (ix3 0 p d) = (show EReal from iblk m c 2 t (ix3 1 p d)))
    (hY1 : ∀ p d, Y1 (ix3 0 p d) = (show EReal from iblk m c 3 t (ix3 1 p d)))
    (hv2 : ∀ p d, v2 (ix3 0 p d) = (show EReal from iblk m c 0 t (ix3 2 p d)))
    (hX2 : ∀ p d, X2 (ix3 0 p d) = (show EReal from iblk m c 2 t (ix3 2 p d)))
    (hY2 : ∀ p d, Y2 (ix3 0 p d) = (show EReal from iblk m c 3 t (ix3 2 p d)))
    (hv3 : ∀ p d, v3 (ix3 0 p d) = (show EReal from iblk m c 0 t (ix3 3 p d)))
    (hX3 : ∀ p d, X3 (ix3 0 p d) = (show EReal from iblk m c 2 t (ix3 3 p d)))
    (hY3 : ∀ p d, Y3 (ix3 0 p d) = (show EReal from iblk m c 3 t (ix3 3 p d)))
    (hZ : ∀ d, Z (ix2 0 d) = 0) (d : Fin 64) :
    k0_pay35 (F := Ideal) (k0_pay26 (Scalar.cmpi .slt (BitVec.ofNat 32 (grid0.coords t 0).val) 15#32) (k0_pay19 (k0_pay10 Z (k0_pay4 (grid0.coords t) X0 Y0) (k0_pay6 v0) (k0_pay7 v0) (Scalar.ofBits .f32 0x358637BD#32)) (k0_pay12 (Scalar.cmpi .slt (BitVec.ofNat 32 (grid0.coords t 0).val) 15#32) X1 Y1) v1) X2 Y2 v2)
        (k0_pay28 (Scalar.cmpi .slt (BitVec.ofNat 32 (grid0.coords t 0).val) 15#32) X3 Y3) v3 V (ix2 0 d)
      = V (ix2 0 d) + part m c t d := by
  refine (pay35_apply _ _ _ _ d).trans ?_
  refine congrArg (fun z : EReal => V (ix2 0 d) + z) ?_
  refine (congrArg₂ (fun a b : EReal => a + b) ((pay26_apply _ _ _ _ _ d).trans ?_) (pointg m c t 3 v3 X3 Y3 _ hv3 hX3 hY3 (pay28_apply _ _ _) d)).trans rfl
  refine congrArg₂ (fun a b : EReal => a + b) ((pay19_apply _ _ _ d).trans ?_) (pointh m c t 2 v2 X2 Y2 hv2 hX2 hY2 d)
  refine congrArg₂ (fun a b : EReal => a + b) ((pay10_apply _ _ _ d).trans ?_) (pointg m c t 1 v1 X1 Y1 _ hv1 hX1 hY1 (pay12_apply _ _ _) d)
  rw [hZ d]
  exact (zero_add _).trans (pointg m c t 0 v0 X0 Y0 _ hv0 hX0 hY0 (pay4_apply _ _ _) d)

theorem pay3_apply (d : Fin 64) : k0_pay3 (F := Ideal) (ix2 0 d) = 0 := by
  pointwise [k0_pay3]

theorem pay2_apply (d : Fin 64) : k0_pay2 (F := Ideal) (ix2 0 d) = 0 := by
  pointwise [k0_pay2]

/-- the first point starts the sum -/
theorem acc_first (c : Dev nD) (t : Fin cfg0.N) (h : t.val % 16 = 0) (d : Fin 64) :
    (outsAt0 m c t.val t.isLt).2.2.1 (ix2 0 d) = part m c t d := by
  rw [outsAt0_A m c t h]
  frame_out
  exact (adds m c t _ _ _ _ _ _ _ _ _ _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) pay3_apply d).trans ((congrArg (fun z : EReal => z + part m c t d) (pay2_apply d)).trans (zero_add _))

/-- every other one adds its rows -/
theorem acc_step (c : Dev nD) (t : Fin cfg0.N) (h : ¬t.val % 16 = 0) (d : Fin 64) :
    (outsAt0 m c t.val t.isLt).2.2.1 (ix2 0 d)
      = (outsAt0 m c (t.val - 1) (lt_of_le_of_lt (Nat.sub_le _ _) t.isLt)).2.2.1 (ix2 0 d) + part m c t d := by
  rw [outsAt0_B m c t h]
  frame_out
  exact adds m c t _ _ _ _ _ _ _ _ _ _ _ _ _ _ (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) (fun p d => View.ld_unit_apply_of _ _ _ _ _ _ (fun a => match a with | ⟨0, _⟩ => rfl | ⟨1, _⟩ => (Nat.zero_add _).symm | ⟨2, _⟩ => (Nat.zero_add _).symm)) pay3_apply d

/-- the sum after each point -/
theorem acc (c : Dev nD) (d : Fin 64) : ∀ (n : ℕ) (hn : n < cfg0.N),
    (outsAt0 m c n hn).2.2.1 (ix2 0 d) = ∑ p : Fin (n + 1), part m c ⟨p.val, lt_of_le_of_lt (Nat.le_of_lt_succ p.isLt) hn⟩ d
  | 0, hn => by
    rw [acc_first m c ⟨0, hn⟩ rfl d]; simp
  | n + 1, hn => by
    have h8 : n + 1 < 16 := lt_of_lt_of_eq hn N_0
    rw [Fin.sum_univ_castSucc]
    refine (acc_step m c ⟨n + 1, hn⟩ (by dsimp only; omega) d).trans ?_
    exact congrArg (fun z : EReal => z + part m c ⟨n + 1, hn⟩ d) (acc c d n (by omega))

/-- the sixteen blocks of rows, after the last point -/
theorem acc_last (c : Dev nD) (t : Fin cfg0.N) (h : t.val % 16 = 15) (d : Fin 64) :
    (outsAt0 m c t.val t.isLt).2.2.1 (ix2 0 d) = ∑ p : Fin 16, part m c ⟨p.val, lt_of_lt_of_eq p.isLt N_0.symm⟩ d := by
  obtain ⟨n, hn⟩ := t
  have hn' : n < 16 := lt_of_lt_of_eq hn N_0
  obtain rfl : n = 15 := by dsimp only at h; omega
  exact acc m c d 15 hn

/-- a point's share, heads inside -/
theorem part_eq (c : Dev nD) (t : Fin cfg0.N) (d : Fin 64) :
    part m c t d = ∑ p : Fin 128, ∑ g : Fin 4, Cert.AttnBwdKvRefIdeal.Read.val_main_v58 (F := Ideal) (m ((c : Thread nD τ).loc main_arg0)) (m ((c : Thread nD τ).loc main_arg2)) (m ((c : Thread nD τ).loc main_arg3)) (ix3 (row t p) g d) := by
  rw [Finset.sum_comm, Fin.sum_univ_four]
  exact rfl

/-- the gain's gradient after the run -/
theorem finalG (c : Dev nD) : (dats m 0 c).arrAt 8 (cfgs 0).N = REFg (m ((c : Thread nD τ).loc main_arg0)) (m ((c : Thread nD τ).loc main_arg2)) (m ((c : Thread nD τ).loc main_arg3)) := by
  refine (dats m 0 c).arrAt_eq_of_covers 8 _ (by decide +kernel) fun t hf y => ?_
  have ht : t.val % 16 = 15 := (flush0_8 t).mp hf
  blk_simp
  rw [after0_8]
  have hy0 : y = ix2 0 (y 1) := by
    funext a
    match a with
    | ⟨0, _⟩ => exact Subsingleton.elim (α := Fin 1) _ _
    | ⟨1, _⟩ => rfl
  refine (congrArg _ hy0).trans ((acc_last m c t ht (y 1)).trans ?_)
  have hy : (((cfg0.win 8).blk t).view.emb y : S1x64.Idx) = ix2 0 (y 1) := by
    blk_ext [idx t]
  refine Eq.trans ?_ (congrArg (REFg (m ((c : Thread nD τ).loc main_arg0)) (m ((c : Thread nD τ).loc main_arg2)) (m ((c : Thread nD τ).loc main_arg3))) hy).symm
  refine Eq.trans ?_ (refg_apply _ _ _ (y 1)).symm
  rw [Fin.sum_univ_tiles 16 128 rfl]
  refine Finset.sum_congr rfl fun p _ => ?_
  refine (part_eq m c _ (y 1)).trans ?_
  unfold row
  exact rfl

end Cert.AttnBwdKvIdeal.Grad

end
-- ==== Proof.AttnBwdKvA.lean ====
module

public import proofs.«01_k».proof.Defs
public import proofs.«01_k».proof.Proof.AttnBwdKvV
public import proofs.«01_k».proof.Proof.Gen.AttnBwdKvRefIdeal.Run

@[expose] public section

set_option maxRecDepth 16384

noncomputable section

open Idealize.ShloMosaic Idealize.ShloMosaic.TcCoe Idealize.SL.Sem

namespace Cert.AttnBwdKvIdeal.Grad

open Cert.AttnBwdKvIdeal

theorem algebraic : Cert.algebraic_AttnBwdKvIdeal_AttnBwdKvRefIdeal (hAttnBwdKvIdeal := Cert.AttnBwdKvIdeal.Gen.facts)
    (hAttnBwdKvRefIdeal := Cert.AttnBwdKvRefIdeal.Gen.facts) := by
  pair_intro
  · run_from Cert.AttnBwdKvIdeal.Gen.run_main m g
  · run_from Cert.AttnBwdKvRefIdeal.Value.run m' g'
    · rw [Cert.AttnBwdKvIdeal.Grad.finalK m c]
      refine (Cert.AttnBwdKvRefIdeal.Read.val_main_v81_eq m' c).trans ?_
      rw [(hagree c).1, (hagree c).2.1, (hagree c).2.2.1, (hagree c).2.2.2.1]
    · rw [Cert.AttnBwdKvIdeal.Grad.finalV m c]
      refine (Cert.AttnBwdKvRefIdeal.Read.val_main_v84_eq _ _).trans ?_
      rw [(hagree c).2.2.2.2.1, (hagree c).2.2.2.2.2]
    · rw [Cert.AttnBwdKvIdeal.Grad.finalG m c]
      rw [← (hagree c).1]
      refine (Cert.AttnBwdKvRefIdeal.Read.val_main_v85_eq _ _ _).trans ?_
      rw [(hagree c).2.2.1, (hagree c).2.2.2.1]

theorem frame_ref : Cert.quiescent_AttnBwdKvRefIdeal (hAttnBwdKvRefIdeal := Cert.AttnBwdKvRefIdeal.Gen.facts) := by
  intro m ρ _
  exact (θ_run Cert.AttnBwdKvRefIdeal.defs _ _).mono (fun r h => ⟨fun c => (h c).2.2.2, sem_eq_zero_of_no_sems (by decide) r.2⟩)
    (Cert.AttnBwdKvRefIdeal.Value.run (F := Ideal) m ρ)

end Cert.AttnBwdKvIdeal.Grad

end
-- ==== Proof.RmsFwdV.lean ====
module

public import proofs.«01_k».proof.Proof.Gen.RmsFwdIdeal.Frame
public import proofs.«01_k».proof.Proof.Gen.RmsFwdRefIdeal.Read
public import Idealize.ShloMosaic.Lib.Pipeline.ValueKit
public import Idealize.ShloMosaic.Lib.Pipeline.ReadBack
public import Idealize.ShloMosaic.Lib.Claim
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.RmsFwdIdeal.Grad

open Cert.RmsFwdIdeal Cert.RmsFwdIdeal.Gen

variable (m : (ℓ : Loc nD τ sig) → Buf (Elt Ideal) ℓ)

/-- the normed rows, over the kernel's argument arrays -/
abbrev REF (x0 : FVec Ideal S2048x2048 .f32) (x1 : FVec Ideal S2048 .f32) : FVec Ideal S2048x2048 .bf16 :=
  Cert.RmsFwdRefIdeal.Read.val_main_v13 (F := Ideal) x0 x1

open Cert.RmsFwdRefIdeal.Read in
theorem ref_apply (x0 : FVec Ideal S2048x2048 .f32) (x1 : FVec Ideal S2048 .f32) (r j : Fin 2048) :
    REF x0 x1 (ix2 r j) = x0 (ix2 r j) * Cert.Norm.rinv (fun k => x0 (ix2 r k)) (Ideal.ofBits .f32 1157627904#32) (Ideal.ofBits .f32 897988541#32) * x1 (ix1 j) := by
  unfold REF
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, Cert.Norm.rinv]

theorem pay_apply (v : FVec Ideal S256x2048 .f32) (G : FVec Ideal S1x2048 .f32) (p : Fin 256) (j : Fin 2048) :
    k0_pay1 (F := Ideal) v G (ix2 p j) = v (ix2 p j) * Cert.Norm.rinv (fun k => v (ix2 p k)) (Ideal.ofBits .f32 1157627904#32) (Ideal.ofBits .f32 897988541#32) * G (ix2 0 j) := by
  pointwise [k0_pay1, Cert.Norm.rinv]

theorem idx : ∀ t : Fin cfg0.N, win0_0.index t = ![t.val, 0] ∧ win0_1.index t = ![0, 0] ∧ win0_2.index t = ![t.val, 0] :=
  (by decide +kernel : ∀ t : Fin grid0.N, _)

/-- a point's row among all of them -/
def row (t : Fin cfg0.N) (p : Fin 256) : Fin 2048 :=
  ⟨t.val * 256 + p.val, by have := lt_of_lt_of_eq t.isLt N_0; omega⟩

theorem row_val (t : Fin cfg0.N) (p : Fin 256) : (row t p).val = t.val * 256 + p.val := rfl

theorem blk0 (c : Dev nD) (t : Fin cfg0.N) (p : Fin 256) (j : Fin 2048) :
    (iblk m c 0 t : FVec Ideal S256x2048 .f32) (ix2 p j) = m ((c : Thread nD τ).loc main_arg0) (ix2 (row t p) j) := by
  blk_point [iblk, V, idx t, row_val]

theorem blk1 (c : Dev nD) (t : Fin cfg0.N) (j : Fin 2048) :
    (iblk m c 1 t : FVec Ideal S1x2048 .f32) (ix2 0 j) = m ((c : Thread nD τ).loc main_arg1) (ix1 j) := by
  blk_point [iblk, V, idx t, row_val]

theorem point (c : Dev nD) (t : Fin cfg0.N) (p : Fin 256) (j : Fin 2048) :
    k0_pay1 (iblk m c 0 t) (iblk m c 1 t) (ix2 p j) = REF (m ((c : Thread nD τ).loc main_arg0)) (m ((c : Thread nD τ).loc main_arg1)) (ix2 (row t p) j) := by
  rw [ref_apply, pay_apply, blk1]
  simp only [blk0]

/-- the result array after the run -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : (((cfg0.win 2).blk t).view.emb y : S2048x2048.Idx) = ix2 (row t (y 0)) (y 1) := by
    blk_ext [idx t, row_val]
    exact rfl
  refine Eq.trans ?_ (congrArg (REF (m ((c : Thread nD τ).loc main_arg0)) (m ((c : Thread nD τ).loc main_arg1))) hy).symm
  exact (congrArg _ (Idealize.ShloMosaic.eq_ix2 y)).trans (point m c t (y 0) (y 1))

end Cert.RmsFwdIdeal.Grad

end
-- ==== Proof.RmsFwdA.lean ====
module

public import proofs.«01_k».proof.Defs
public import proofs.«01_k».proof.Proof.RmsFwdV
public import proofs.«01_k».proof.Proof.Gen.RmsFwdRefIdeal.Run

@[expose] public section

set_option maxRecDepth 16384

noncomputable section

open Idealize.ShloMosaic Idealize.ShloMosaic.TcCoe Idealize.SL.Sem

namespace Cert.RmsFwdIdeal.Grad

open Cert.RmsFwdIdeal

theorem algebraic : Cert.algebraic_RmsFwdIdeal_RmsFwdRefIdeal (hRmsFwdIdeal := Cert.RmsFwdIdeal.Gen.facts)
    (hRmsFwdRefIdeal := Cert.RmsFwdRefIdeal.Gen.facts) := by
  pair_intro
  · run_from Cert.RmsFwdIdeal.Gen.run_main m g
  · run_from Cert.RmsFwdRefIdeal.Value.run m' g'
    rw [Cert.RmsFwdIdeal.Grad.final m c]
    rfl

theorem frame_ref : Cert.quiescent_RmsFwdRefIdeal (hRmsFwdRefIdeal := Cert.RmsFwdRefIdeal.Gen.facts) := by
  intro m ρ _
  exact (θ_run Cert.RmsFwdRefIdeal.defs _ _).mono (fun r h => ⟨fun c => (h c).2, sem_eq_zero_of_no_sems (by decide) r.2⟩)
    (Cert.RmsFwdRefIdeal.Value.run (F := Ideal) m ρ)

end Cert.RmsFwdIdeal.Grad

end
-- ==== Proof.MixnormFwdV.lean ====
module

public import proofs.«01_k».proof.Proof.Gen.MixnormFwdIdeal.Frame
public import proofs.«01_k».proof.Proof.Gen.MixnormFwdRefIdeal.Read
public import Idealize.ShloMosaic.Lib.Pipeline.ValueKit
public import Idealize.ShloMosaic.Lib.Pipeline.ReadBack
public import Idealize.ShloMosaic.Lib.Claim
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MixnormFwdIdeal.Grad

open Cert.MixnormFwdIdeal Cert.MixnormFwdIdeal.Gen

variable (m : (ℓ : Loc nD τ sig) → Buf (Elt Ideal) ℓ)

/-- the normed rows, over the kernel's argument arrays -/
abbrev REF (x0 : FVec Ideal S2048x1024 .f32) (x1 x2 : FVec Ideal S2048x512 .f32) (x3 : FVec Ideal S2048 .f32) : FVec Ideal S2048x2048 .bf16 :=
  Cert.MixnormFwdRefIdeal.Read.val_main_v43 (F := Ideal) x0 x1 x2 x3

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- a point's row among all of them -/
def row (t : Fin cfg0.N) (p : Fin 256) : Fin 2048 :=
  ⟨t.val * 256 + p.val, by have := lt_of_lt_of_eq t.isLt N_0; omega⟩

theorem row_val (t : Fin cfg0.N) (p : Fin 256) : (row t p).val = t.val * 256 + p.val := rfl

/-- the result at a point's block -/
def G (c : Dev nD) (t : Fin cfg0.N) (j : S256x2048.Idx) : EReal :=
  REF (m ((c : Thread nD τ).loc main_arg0)) (m ((c : Thread nD τ).loc main_arg1)) (m ((c : Thread nD τ).loc main_arg2)) (m ((c : Thread nD τ).loc main_arg3)) (ix2 (row t (j 0)) (j 1))

theorem g_of (c : Dev nD) (t : Fin cfg0.N) (p : Fin 256) (q : Fin 2048) (j : S256x2048.Idx) (h0 : (j 0).val = p.val) (h1 : (j 1).val = q.val) :
    G m c t j = REF (m ((c : Thread nD τ).loc main_arg0)) (m ((c : Thread nD τ).loc main_arg1)) (m ((c : Thread nD τ).loc main_arg2)) (m ((c : Thread nD τ).loc main_arg3)) (ix2 (row t p) q) := by
  have e0 : j 0 = p := Fin.ext h0
  have e1 : j 1 = q := Fin.ext h1
  unfold G
  rw [e0, e1]

theorem blk3 (c : Dev nD) (t : Fin cfg0.N) (j : Fin 2048) :
    (show EReal from iblk m c 3 t (ix2 0 j)) = m ((c : Thread nD τ).loc main_arg3) (ix1 j) := by
  blk_point [iblk, V, idx t, row_val]

def cola (j : Fin 1024) : Fin 2048 := ⟨0 + j.val, by omega⟩

open Cert.MixnormFwdRefIdeal.Read in
theorem refa_apply (x0 : FVec Ideal S2048x1024 .f32) (x1 x2 : FVec Ideal S2048x512 .f32) (x3 : FVec Ideal S2048 .f32) (r : Fin 2048) (j : Fin 1024) :
    REF x0 x1 x2 x3 (ix2 r (cola j)) = x0 (ix2 r j) * Cert.Norm.rinv (fun k => x0 (ix2 r k)) (Ideal.ofBits .f32 1149239296#32) (Ideal.ofBits .f32 897988541#32) * x3 (ix1 (cola j)) := by
  unfold REF cola
  have hj := j.isLt
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_cst_5, val_main_v30, val_main_v31, val_main_cst_6, val_main_v32, val_main_v33, val_main_cst_7, val_main_v34, val_main_v35, val_main_v36, val_main_v37, val_main_v38, val_main_v39, val_main_v40, val_main_v41, val_main_v42, val_main_v43, Cert.Norm.rinv]

theorem paya_apply (v : FVec Ideal S256x1024 .f32) (G : FVec Ideal S1x1024 .f32) (p : Fin 256) (j : Fin 1024) :
    k0_pay3 (F := Ideal) v G (ix2 p j) = v (ix2 p j) * Cert.Norm.rinv (fun k => v (ix2 p k)) (Ideal.ofBits .f32 1149239296#32) (Ideal.ofBits .f32 897988541#32) * G (ix2 0 j) := by
  pointwise [k0_pay3, k0_pay5, Cert.Norm.rinv]

theorem blk0 (c : Dev nD) (t : Fin cfg0.N) (p : Fin 256) (j : Fin 1024) :
    (iblk m c 0 t : FVec Ideal S256x1024 .f32) (ix2 p j) = m ((c : Thread nD τ).loc main_arg0) (ix2 (row t p) j) := by
  blk_point [iblk, V, idx t, row_val]

theorem pointa (c : Dev nD) (t : Fin cfg0.N) (H : FVec Ideal S1x1024 .f32)
    (hH : ∀ j, H (ix2 0 j) = (show EReal from iblk m c 3 t (ix2 0 (cola j)))) (p : Fin 256) (j : Fin 1024) :
    k0_pay3 (F := Ideal) (iblk m c 0 t) H (ix2 p j) = REF (m ((c : Thread nD τ).loc main_arg0)) (m ((c : Thread nD τ).loc main_arg1)) (m ((c : Thread nD τ).loc main_arg2)) (m ((c : Thread nD τ).loc main_arg3)) (ix2 (row t p) (cola j)) := by
  rw [refa_apply, paya_apply, hH, blk3]
  simp only [blk0]

def colc (j : Fin 512) : Fin 2048 := ⟨1024 + j.val, by omega⟩

open Cert.MixnormFwdRefIdeal.Read in
theorem refc_apply (x0 : FVec Ideal S2048x1024 .f32) (x1 x2 : FVec Ideal S2048x512 .f32) (x3 : FVec Ideal S2048 .f32) (r : Fin 2048) (j : Fin 512) :
    REF x0 x1 x2 x3 (ix2 r (colc j)) = x1 (ix2 r j) * Cert.Norm.rinv (fun k => x1 (ix2 r k)) (Ideal.ofBits .f32 1140850688#32) (Ideal.ofBits .f32 897988541#32) * x3 (ix1 (colc j)) := by
  unfold REF colc
  have hj := j.isLt
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_cst_5, val_main_v30, val_main_v31, val_main_cst_6, val_main_v32, val_main_v33, val_main_cst_7, val_main_v34, val_main_v35, val_main_v36, val_main_v37, val_main_v38, val_main_v39, val_main_v40, val_main_v41, val_main_v42, val_main_v43, Cert.Norm.rinv]

theorem payc_apply (v : FVec Ideal S256x512 .f32) (G : FVec Ideal S1x512 .f32) (p : Fin 256) (j : Fin 512) :
    k0_pay4 (F := Ideal) v G (ix2 p j) = v (ix2 p j) * Cert.Norm.rinv (fun k => v (ix2 p k)) (Ideal.ofBits .f32 1140850688#32) (Ideal.ofBits .f32 897988541#32) * G (ix2 0 j) := by
  pointwise [k0_pay4, k0_pay5, Cert.Norm.rinv]

theorem blk1 (c : Dev nD) (t : Fin cfg0.N) (p : Fin 256) (j : Fin 512) :
    (iblk m c 1 t : FVec Ideal S256x512 .f32) (ix2 p j) = m ((c : Thread nD τ).loc main_arg1) (ix2 (row t p) j) := by
  blk_point [iblk, V, idx t, row_val]

theorem pointc (c : Dev nD) (t : Fin cfg0.N) (H : FVec Ideal S1x512 .f32)
    (hH : ∀ j, H (ix2 0 j) = (show EReal from iblk m c 3 t (ix2 0 (colc j)))) (p : Fin 256) (j : Fin 512) :
    k0_pay4 (F := Ideal) (iblk m c 1 t) H (ix2 p j) = REF (m ((c : Thread nD τ).loc main_arg0)) (m ((c : Thread nD τ).loc main_arg1)) (m ((c : Thread nD τ).loc main_arg2)) (m ((c : Thread nD τ).loc main_arg3)) (ix2 (row t p) (colc j)) := by
  rw [refc_apply, payc_apply, hH, blk3]
  simp only [blk1]

def cols (j : Fin 512) : Fin 2048 := ⟨1536 + j.val, by omega⟩

open Cert.MixnormFwdRefIdeal.Read in
theorem refs_apply (x0 : FVec Ideal S2048x1024 .f32) (x1 x2 : FVec Ideal S2048x512 .f32) (x3 : FVec Ideal S2048 .f32) (r : Fin 2048) (j : Fin 512) :
    REF x0 x1 x2 x3 (ix2 r (cols j)) = x2 (ix2 r j) * Cert.Norm.rinv (fun k => x2 (ix2 r k)) (Ideal.ofBits .f32 1140850688#32) (Ideal.ofBits .f32 897988541#32) * x3 (ix1 (cols j)) := by
  unfold REF cols
  have hj := j.isLt
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_cst_5, val_main_v30, val_main_v31, val_main_cst_6, val_main_v32, val_main_v33, val_main_cst_7, val_main_v34, val_main_v35, val_main_v36, val_main_v37, val_main_v38, val_main_v39, val_main_v40, val_main_v41, val_main_v42, val_main_v43, Cert.Norm.rinv]
  have e : 1536 + j.val - 1024 - 512 = j.val := by omega
  refine (dif_neg (by omega)).trans ((dif_neg (by omega)).trans ?_)
  simp only [e, Fin.eta]

theorem pays_apply (v : FVec Ideal S256x512 .f32) (G : FVec Ideal S1x512 .f32) (p : Fin 256) (j : Fin 512) :
    k0_pay1 (F := Ideal) v (k0_pay5 v) G (ix2 p j) = v (ix2 p j) * Cert.Norm.rinv (fun k => v (ix2 p k)) (Ideal.ofBits .f32 1140850688#32) (Ideal.ofBits .f32 897988541#32) * G (ix2 0 j) := by
  pointwise [k0_pay1, k0_pay5, Cert.Norm.rinv]

theorem blk2 (c : Dev nD) (t : Fin cfg0.N) (p : Fin 256) (j : Fin 512) :
    (iblk m c 2 t : FVec Ideal S256x512 .f32) (ix2 p j) = m ((c : Thread nD τ).loc main_arg2) (ix2 (row t p) j) := by
  blk_point [iblk, V, idx t, row_val]

theorem points (c : Dev nD) (t : Fin cfg0.N) (H : FVec Ideal S1x512 .f32)
    (hH : ∀ j, H (ix2 0 j) = (show EReal from iblk m c 3 t (ix2 0 (cols j)))) (p : Fin 256) (j : Fin 512) :
    k0_pay1 (F := Ideal) (iblk m c 2 t) (k0_pay5 (iblk m c 2 t)) H (ix2 p j) = REF (m ((c : Thread nD τ).loc main_arg0)) (m ((c : Thread nD τ).loc main_arg1)) (m ((c : Thread nD τ).loc main_arg2)) (m ((c : Thread nD τ).loc main_arg3)) (ix2 (row t p) (cols j)) := by
  rw [refs_apply, pays_apply, hH, blk3]
  simp only [blk2]

theorem pieces (c : Dev nD) (t : Fin cfg0.N) (j : S256x2048.Idx) : (dats m 0 c).after 4 t j = G m c t j := by
  rw [after0_4]
  unfold outsAt0
  frame_out
  refine View.canon_append_of_piecesOf (Val := Elt Ideal) (e := .bf16) (s := S256x2048) (fun j => G m c t j) [] [_, _, _] ⟨fun x => ?_, fun x => ?_, fun x => ?_, trivial⟩ j ?_
  · exact (congrArg _ (Idealize.ShloMosaic.eq_ix2 x)).trans ((points m c t _ (fun j => View.ld_unit_apply_of _ _ _ _ _ _ (fun a => match a with | ⟨0, _⟩ => rfl | ⟨1, _⟩ => rfl)) (x 0) (x 1)).trans (g_of m c t (x 0) (cols (x 1)) _ ((Rect.idx_unit_val _ _ inb_S256x2048_S256x512_0_1536 x 0).trans (Nat.zero_add _)) (Rect.idx_unit_val _ _ inb_S256x2048_S256x512_0_1536 x 1)).symm)
  · exact (congrArg _ (Idealize.ShloMosaic.eq_ix2 x)).trans ((pointc m c t _ (fun j => View.ld_unit_apply_of _ _ _ _ _ _ (fun a => match a with | ⟨0, _⟩ => rfl | ⟨1, _⟩ => rfl)) (x 0) (x 1)).trans (g_of m c t (x 0) (colc (x 1)) _ ((Rect.idx_unit_val _ _ inb_S256x2048_S256x512_0_1024 x 0).trans (Nat.zero_add _)) (Rect.idx_unit_val _ _ inb_S256x2048_S256x512_0_1024 x 1)).symm)
  · exact (congrArg _ (Idealize.ShloMosaic.eq_ix2 x)).trans ((pointa m c t _ (fun j => View.ld_unit_apply_of _ _ _ _ _ _ (fun a => match a with | ⟨0, _⟩ => rfl | ⟨1, _⟩ => rfl)) (x 0) (x 1)).trans (g_of m c t (x 0) (cola (x 1)) _ ((Rect.idx_unit_val _ _ inb_S256x2048_S256x1024_0_0 x 0).trans (Nat.zero_add _)) (Rect.idx_unit_val _ _ inb_S256x2048_S256x1024_0_0 x 1)).symm)
  · have hj0 : (j 0).val < 256 := (j 0).isLt
    have hj1 : (j 1).val < 2048 := (j 1).isLt
    simp only [List.mem_cons, List.not_mem_nil, or_false, exists_eq_or_imp, exists_eq_left, Rect.mem_set_unit, Fin.forall_fin_two]
    simp only [Matrix.cons_val_zero, Matrix.cons_val_one]
    omega

/-- the result array after the run -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hy : (((cfg0.win 4).blk t).view.emb y : S2048x2048.Idx) = ix2 (row t (y 0)) (y 1) := by
    blk_ext [idx t, row_val]
    exact rfl
  exact (pieces m c t y).trans (congrArg (REF (m ((c : Thread nD τ).loc main_arg0)) (m ((c : Thread nD τ).loc main_arg1)) (m ((c : Thread nD τ).loc main_arg2)) (m ((c : Thread nD τ).loc main_arg3))) hy.symm)

end Cert.MixnormFwdIdeal.Grad

end
-- ==== Proof.MixnormFwdA.lean ====
module

public import proofs.«01_k».proof.Defs
public import proofs.«01_k».proof.Proof.MixnormFwdV
public import proofs.«01_k».proof.Proof.Gen.MixnormFwdRefIdeal.Run

@[expose] public section

set_option maxRecDepth 16384

noncomputable section

open Idealize.ShloMosaic Idealize.ShloMosaic.TcCoe Idealize.SL.Sem

namespace Cert.MixnormFwdIdeal.Grad

open Cert.MixnormFwdIdeal

theorem algebraic : Cert.algebraic_MixnormFwdIdeal_MixnormFwdRefIdeal (hMixnormFwdIdeal := Cert.MixnormFwdIdeal.Gen.facts)
    (hMixnormFwdRefIdeal := Cert.MixnormFwdRefIdeal.Gen.facts) := by
  pair_intro
  · run_from Cert.MixnormFwdIdeal.Gen.run_main m g
  · run_from Cert.MixnormFwdRefIdeal.Value.run m' g'
    rw [Cert.MixnormFwdIdeal.Grad.final m c]
    rw [(hagree c).2.2.2]; rfl

theorem frame_ref : Cert.quiescent_MixnormFwdRefIdeal (hMixnormFwdRefIdeal := Cert.MixnormFwdRefIdeal.Gen.facts) := by
  intro m ρ _
  exact (θ_run Cert.MixnormFwdRefIdeal.defs _ _).mono (fun r h => ⟨fun c => (h c).2, sem_eq_zero_of_no_sems (by decide) r.2⟩)
    (Cert.MixnormFwdRefIdeal.Value.run (F := Ideal) m ρ)

end Cert.MixnormFwdIdeal.Grad

end
-- ==== Proof.lean ====
module

public import proofs.«01_k».proof.Defs
public import proofs.«01_k».proof.Proof.Gen.DwDown.Frame
public import proofs.«01_k».proof.Proof.Gen.DwDownIdeal.Frame
public import proofs.«01_k».proof.Proof.DwDownA
public import proofs.«01_k».proof.Proof.Gen.DwDownRefIdeal.Run
public import proofs.«01_k».proof.Proof.Gen.DwDownRefIdeal.Read
public import proofs.«01_k».proof.Proof.Gen.Dup.Frame
public import proofs.«01_k».proof.Proof.Gen.DupIdeal.Frame
public import proofs.«01_k».proof.Proof.DupA
public import proofs.«01_k».proof.Proof.Gen.DupRefIdeal.Run
public import proofs.«01_k».proof.Proof.Gen.DupRefIdeal.Read
public import proofs.«01_k».proof.Proof.Gen.DwUp.Frame
public import proofs.«01_k».proof.Proof.Gen.DwUpIdeal.Frame
public import proofs.«01_k».proof.Proof.DwUpA
public import proofs.«01_k».proof.Proof.Gen.DwUpRefIdeal.Run
public import proofs.«01_k».proof.Proof.Gen.DwUpRefIdeal.Read
public import proofs.«01_k».proof.Proof.Gen.Dh2.Frame
public import proofs.«01_k».proof.Proof.Gen.Dh2Ideal.Frame
public import proofs.«01_k».proof.Proof.Dh2A
public import proofs.«01_k».proof.Proof.Gen.Dh2RefIdeal.Run
public import proofs.«01_k».proof.Proof.Gen.Dh2RefIdeal.Read
public import proofs.«01_k».proof.Proof.Gen.DwOut.Frame
public import proofs.«01_k».proof.Proof.Gen.DwOutIdeal.Frame
public import proofs.«01_k».proof.Proof.DwOutA
public import proofs.«01_k».proof.Proof.Gen.DwOutRefIdeal.Run
public import proofs.«01_k».proof.Proof.Gen.DwOutRefIdeal.Read
public import proofs.«01_k».proof.Proof.Gen.Dmix.Frame
public import proofs.«01_k».proof.Proof.Gen.DmixIdeal.Frame
public import proofs.«01_k».proof.Proof.DmixA
public import proofs.«01_k».proof.Proof.Gen.DmixRefIdeal.Run
public import proofs.«01_k».proof.Proof.Gen.DmixRefIdeal.Read
public import proofs.«01_k».proof.Proof.Gen.DwIn.Frame
public import proofs.«01_k».proof.Proof.Gen.DwInIdeal.Frame
public import proofs.«01_k».proof.Proof.DwInA
public import proofs.«01_k».proof.Proof.Gen.DwInRefIdeal.Run
public import proofs.«01_k».proof.Proof.Gen.DwInRefIdeal.Read
public import proofs.«01_k».proof.Proof.Gen.Dh1.Frame
public import proofs.«01_k».proof.Proof.Gen.Dh1Ideal.Frame
public import proofs.«01_k».proof.Proof.Dh1A
public import proofs.«01_k».proof.Proof.Gen.Dh1RefIdeal.Run
public import proofs.«01_k».proof.Proof.Gen.Dh1RefIdeal.Read
public import proofs.«01_k».proof.Proof.Gen.Proj.Frame
public import proofs.«01_k».proof.Proof.Gen.ProjIdeal.Frame
public import proofs.«01_k».proof.Proof.ProjA
public import proofs.«01_k».proof.Proof.Gen.ProjRefIdeal.Run
public import proofs.«01_k».proof.Proof.Gen.ProjRefIdeal.Read
public import proofs.«01_k».proof.Proof.Gen.Out.Frame
public import proofs.«01_k».proof.Proof.Gen.OutIdeal.Frame
public import proofs.«01_k».proof.Proof.OutA
public import proofs.«01_k».proof.Proof.Gen.OutRefIdeal.Run
public import proofs.«01_k».proof.Proof.Gen.OutRefIdeal.Read
public import proofs.«01_k».proof.Proof.Gen.Up.Frame
public import proofs.«01_k».proof.Proof.Gen.UpIdeal.Frame
public import proofs.«01_k».proof.Proof.UpA
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Frame
public import proofs.«01_k».proof.Proof.DownA
public import proofs.«01_k».proof.Proof.Gen.DownRefIdeal.Run
public import proofs.«01_k».proof.Proof.Gen.DownRefIdeal.Read
public import proofs.«01_k».proof.Proof.Gen.RmsBwd.Frame
public import proofs.«01_k».proof.Proof.Gen.RmsBwdIdeal.Frame
public import proofs.«01_k».proof.Proof.RmsBwdA
public import proofs.«01_k».proof.Proof.Gen.RmsBwdRefIdeal.Run
public import proofs.«01_k».proof.Proof.Gen.RmsBwdRefIdeal.Read
public import proofs.«01_k».proof.Proof.Gen.MixnormBwd.Frame
public import proofs.«01_k».proof.Proof.Gen.MixnormBwdIdeal.Frame
public import proofs.«01_k».proof.Proof.MixnormBwdA
public import proofs.«01_k».proof.Proof.Gen.MixnormBwdRefIdeal.Run
public import proofs.«01_k».proof.Proof.Gen.MixnormBwdRefIdeal.Read
public import proofs.«01_k».proof.Proof.Gen.AttnBwdKv.Frame
public import proofs.«01_k».proof.Proof.Gen.AttnBwdKvIdeal.Frame
public import proofs.«01_k».proof.Proof.AttnBwdKvA
public import proofs.«01_k».proof.Proof.Gen.AttnBwdKvRefIdeal.Run
public import proofs.«01_k».proof.Proof.Gen.AttnBwdKvRefIdeal.Read
public import proofs.«01_k».proof.Proof.Gen.RmsFwd.Frame
public import proofs.«01_k».proof.Proof.Gen.RmsFwdIdeal.Frame
public import proofs.«01_k».proof.Proof.RmsFwdA
public import proofs.«01_k».proof.Proof.Gen.RmsFwdRefIdeal.Run
public import proofs.«01_k».proof.Proof.Gen.RmsFwdRefIdeal.Read
public import proofs.«01_k».proof.Proof.Gen.MixnormFwd.Frame
public import proofs.«01_k».proof.Proof.Gen.MixnormFwdIdeal.Frame
public import proofs.«01_k».proof.Proof.MixnormFwdA
public import proofs.«01_k».proof.Proof.Gen.MixnormFwdRefIdeal.Run
public import proofs.«01_k».proof.Proof.Gen.MixnormFwdRefIdeal.Read

@[expose] public section

noncomputable section

namespace Cert.Proof

open Idealize.ShloMosaic Idealize.SL.Sem

theorem claim : Cert.Claim := ⟨Cert.DwDown.Gen.facts,
  Cert.DwDownIdeal.Gen.facts,
  Cert.DwDownRefIdeal.Gen.facts,
  Cert.Dup.Gen.facts,
  Cert.DupIdeal.Gen.facts,
  Cert.DupRefIdeal.Gen.facts,
  Cert.DwUp.Gen.facts,
  Cert.DwUpIdeal.Gen.facts,
  Cert.DwUpRefIdeal.Gen.facts,
  Cert.Dh2.Gen.facts,
  Cert.Dh2Ideal.Gen.facts,
  Cert.Dh2RefIdeal.Gen.facts,
  Cert.DwOut.Gen.facts,
  Cert.DwOutIdeal.Gen.facts,
  Cert.DwOutRefIdeal.Gen.facts,
  Cert.Dmix.Gen.facts,
  Cert.DmixIdeal.Gen.facts,
  Cert.DmixRefIdeal.Gen.facts,
  Cert.DwIn.Gen.facts,
  Cert.DwInIdeal.Gen.facts,
  Cert.DwInRefIdeal.Gen.facts,
  Cert.Dh1.Gen.facts,
  Cert.Dh1Ideal.Gen.facts,
  Cert.Dh1RefIdeal.Gen.facts,
  Cert.Proj.Gen.facts,
  Cert.ProjIdeal.Gen.facts,
  Cert.ProjRefIdeal.Gen.facts,
  Cert.Out.Gen.facts,
  Cert.OutIdeal.Gen.facts,
  Cert.OutRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.RmsBwd.Gen.facts,
  Cert.RmsBwdIdeal.Gen.facts,
  Cert.RmsBwdRefIdeal.Gen.facts,
  Cert.MixnormBwd.Gen.facts,
  Cert.MixnormBwdIdeal.Gen.facts,
  Cert.MixnormBwdRefIdeal.Gen.facts,
  Cert.AttnBwdKv.Gen.facts,
  Cert.AttnBwdKvIdeal.Gen.facts,
  Cert.AttnBwdKvRefIdeal.Gen.facts,
  Cert.RmsFwd.Gen.facts,
  Cert.RmsFwdIdeal.Gen.facts,
  Cert.RmsFwdRefIdeal.Gen.facts,
  Cert.MixnormFwd.Gen.facts,
  Cert.MixnormFwdIdeal.Gen.facts,
  Cert.MixnormFwdRefIdeal.Gen.facts,
  fun m ρ _ => Cert.DwDown.Gen.frame m ρ,
  fun m ρ _ => Cert.DwDownIdeal.Gen.frame m ρ,
  Cert.DwDownIdeal.Grad.frame_ref,
  fun m ρ _ => Cert.Dup.Gen.frame m ρ,
  fun m ρ _ => Cert.DupIdeal.Gen.frame m ρ,
  Cert.DupIdeal.Grad.frame_ref,
  fun m ρ _ => Cert.DwUp.Gen.frame m ρ,
  fun m ρ _ => Cert.DwUpIdeal.Gen.frame m ρ,
  Cert.DwUpIdeal.Grad.frame_ref,
  fun m ρ _ => Cert.Dh2.Gen.frame m ρ,
  fun m ρ _ => Cert.Dh2Ideal.Gen.frame m ρ,
  Cert.Dh2Ideal.Grad.frame_ref,
  fun m ρ _ => Cert.DwOut.Gen.frame m ρ,
  fun m ρ _ => Cert.DwOutIdeal.Gen.frame m ρ,
  Cert.DwOutIdeal.Grad.frame_ref,
  fun m ρ _ => Cert.Dmix.Gen.frame m ρ,
  fun m ρ _ => Cert.DmixIdeal.Gen.frame m ρ,
  Cert.DmixIdeal.Grad.frame_ref,
  fun m ρ _ => Cert.DwIn.Gen.frame m ρ,
  fun m ρ _ => Cert.DwInIdeal.Gen.frame m ρ,
  Cert.DwInIdeal.Grad.frame_ref,
  fun m ρ _ => Cert.Dh1.Gen.frame m ρ,
  fun m ρ _ => Cert.Dh1Ideal.Gen.frame m ρ,
  Cert.Dh1Ideal.Grad.frame_ref,
  fun m ρ _ => Cert.Proj.Gen.frame m ρ,
  fun m ρ _ => Cert.ProjIdeal.Gen.frame m ρ,
  Cert.ProjIdeal.Grad.frame_ref,
  fun m ρ _ => Cert.Out.Gen.frame m ρ,
  fun m ρ _ => Cert.OutIdeal.Gen.frame m ρ,
  Cert.OutIdeal.Grad.frame_ref,
  fun m ρ _ => Cert.Up.Gen.frame m ρ,
  fun m ρ _ => Cert.UpIdeal.Gen.frame m ρ,
  Cert.UpIdeal.Grad.frame_ref,
  fun m ρ _ => Cert.Down.Gen.frame m ρ,
  fun m ρ _ => Cert.DownIdeal.Gen.frame m ρ,
  Cert.DownIdeal.Grad.frame_ref,
  fun m ρ _ => Cert.RmsBwd.Gen.frame m ρ,
  fun m ρ _ => Cert.RmsBwdIdeal.Gen.frame m ρ,
  Cert.RmsBwdIdeal.Grad.frame_ref,
  fun m ρ _ => Cert.MixnormBwd.Gen.frame m ρ,
  fun m ρ _ => Cert.MixnormBwdIdeal.Gen.frame m ρ,
  Cert.MixnormBwdIdeal.Grad.frame_ref,
  fun m ρ _ => Cert.AttnBwdKv.Gen.frame m ρ,
  fun m ρ _ => Cert.AttnBwdKvIdeal.Gen.frame m ρ,
  Cert.AttnBwdKvIdeal.Grad.frame_ref,
  fun m ρ _ => Cert.RmsFwd.Gen.frame m ρ,
  fun m ρ _ => Cert.RmsFwdIdeal.Gen.frame m ρ,
  Cert.RmsFwdIdeal.Grad.frame_ref,
  fun m ρ _ => Cert.MixnormFwd.Gen.frame m ρ,
  fun m ρ _ => Cert.MixnormFwdIdeal.Gen.frame m ρ,
  Cert.MixnormFwdIdeal.Grad.frame_ref,
  trivial,
  Cert.DwDownIdeal.Grad.algebraic,
  trivial,
  Cert.DupIdeal.Grad.algebraic,
  trivial,
  Cert.DwUpIdeal.Grad.algebraic,
  trivial,
  Cert.Dh2Ideal.Grad.algebraic,
  trivial,
  Cert.DwOutIdeal.Grad.algebraic,
  trivial,
  Cert.DmixIdeal.Grad.algebraic,
  trivial,
  Cert.DwInIdeal.Grad.algebraic,
  trivial,
  Cert.Dh1Ideal.Grad.algebraic,
  trivial,
  Cert.ProjIdeal.Grad.algebraic,
  trivial,
  Cert.OutIdeal.Grad.algebraic,
  trivial,
  Cert.UpIdeal.Grad.algebraic,
  trivial,
  Cert.DownIdeal.Grad.algebraic,
  trivial,
  Cert.RmsBwdIdeal.Grad.algebraic,
  trivial,
  Cert.MixnormBwdIdeal.Grad.algebraic,
  trivial,
  Cert.AttnBwdKvIdeal.Grad.algebraic,
  trivial,
  Cert.RmsFwdIdeal.Grad.algebraic,
  trivial,
  Cert.MixnormFwdIdeal.Grad.algebraic⟩

end Cert.Proof

end
